-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_one [hPre_scale_is_one : Cert.Pre_scale_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_one [hPre_scale_is_one : Cert.Pre_scale_is_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scale_is_one [hKernelIdeal : Cert.KernelIdeal.Facts] [hPre_scale_is_one : Cert.Pre_scale_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scale_is_one [hReferenceIdeal : Cert.ReferenceIdeal.Facts] [hPre_scale_is_one : Cert.Pre_scale_is_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log_items" .f32 0xC15D0C55#32 ((-(Real.log 1000000) : ℝ) : EReal)

def algebraic_KernelIdeal_ReferenceIdeal_pre_scale_is_one [hKernelIdeal : Cert.KernelIdeal.Facts] [hReferenceIdeal : Cert.ReferenceIdeal.Facts] [hPre_scale_is_one : Cert.Pre_scale_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scale_is_one : Cert.Pre_scale_is_one.Facts),
    quiescent_Kernel (hKernel := hKernel)
    ∧ quiescent_KernelIdeal (hKernelIdeal := hKernelIdeal)
    ∧ quiescent_KernelIdeal_pre_scale_is_one (hKernelIdeal := hKernelIdeal) (hPre_scale_is_one := hPre_scale_is_one)
    ∧ quiescent_ReferenceIdeal (hReferenceIdeal := hReferenceIdeal)
    ∧ quiescent_ReferenceIdeal_pre_scale_is_one (hReferenceIdeal := hReferenceIdeal) (hPre_scale_is_one := hPre_scale_is_one)
    ∧ preserves_Kernel_KernelIdeal
    ∧ algebraic_KernelIdeal_ReferenceIdeal_pre_scale_is_one (hKernelIdeal := hKernelIdeal) (hReferenceIdeal := hReferenceIdeal) (hPre_scale_is_one := hPre_scale_is_one)
-- ==== Pre_scale_is_one.lean ====
abbrev S16384 : Shape := ⟨1, ![16384]⟩
abbrev S16384x200 : Shape := ⟨2, ![16384, 200]⟩
abbrev S_ : Shape := ⟨0, ![]⟩

class Facts : Prop where
  bcast_S_S16384x200 : S_.BroadcastsInDim S16384x200 (![] : Fin 0 → Fin S16384x200.rank)

variable [Facts]

def fn {F : FTy → Type} [FloatOps F] (main_arg0 : IVec S16384 32) (main_arg1 : FVec F S16384x200 .f32) : IVec S16384x200 1 :=
  let main_cst : FVec F S_ .f32 := constant S_ .f32 0x3F800000#32
  let main_v0 : FVec F S16384x200 .f32 := broadcastInDim S16384x200 ![] bcast_S_S16384x200 main_cst
  let main_v1 : IVec S16384x200 1 := cmpf .oeq main_arg1 main_v0
  main_v1
-- ==== Kernel.lean ====
abbrev S16384 : Shape := ⟨1, ![16384]⟩
abbrev S16384x200 : Shape := ⟨2, ![16384, 200]⟩
abbrev S2x512x200 : Shape := ⟨3, ![2, 512, 200]⟩
abbrev S2 : Shape := ⟨1, ![2]⟩
abbrev S512x200 : Shape := ⟨2, ![512, 200]⟩
abbrev S1x512x200 : Shape := ⟨3, ![1, 512, 200]⟩
abbrev S1 : Shape := ⟨1, ![1]⟩
abbrev S_ : Shape := ⟨0, ![]⟩

abbrev nBuf : Space → Nat
  | .hbm => 4
  | .vmem => 2
  | .smem => 0
  | _ => 0

abbrev bufTy : (tb : Table) → Fin (tcTables nBuf tb) → BufTy
  | .hbm, ⟨0, _⟩ => ⟨S16384, .i32⟩
  | .hbm, ⟨1, _⟩ => ⟨S16384x200, .f32⟩
  | .hbm, ⟨2, _⟩ => ⟨S16384x200, .i32⟩
  | .hbm, ⟨3, _⟩ => ⟨S16384x200, .f32⟩
  | .local _ .vmem, ⟨0, _⟩ => ⟨S2x512x200, .i32⟩
  | .local _ .vmem, ⟨1, _⟩ => ⟨S2x512x200, .f32⟩
  | _, _ => ⟨S16384, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_scoped0 : Ref sig .tc := ⟨.vmem, 0, rfl⟩
abbrev cc0_scoped2 : Ref sig .tc := ⟨.vmem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_17_r0 : BitVec 32 := 0#32
  let c32_i32_18_r0 : BitVec 32 := 32#32
  let v15_r0 : BitVec 32 := Scalar.addi c0_i32_17_r0 c32_i32_18_r0
  let c1_i32_19_r0 : BitVec 32 := 1#32
  ⟨c0_i32_17_r0, v15_r0, c1_i32_19_r0⟩
def k0_off1 (arg3_r0 : BitVec 32) : Fin 3 → Nat :=
  let c2_i32_75_r0 : BitVec 32 := 2#32
  let v89_r0 : BitVec 32 := Scalar.remui arg3_r0 c2_i32_75_r0
  let v275_r0 : Index := Scalar.indexCast v89_r0
  let c0_r0 : Index := 0#32
  let c0_119_r0 : Index := 0#32
  ![v275_r0.toNat, 0, 0]

def k0_chk1 (arg3_r0 : BitVec 32) : Prop :=
  (∀ a, (k0_off1 arg3_r0) a + S1x512x200.size a ≤ S2x512x200.size a)
theorem k0_off1_inb : ∀ (arg3_r0 : BitVec 32) (k0_hw1 : k0_chk1 arg3_r0), ∀ a, (k0_off1 arg3_r0) a + S1x512x200.size a ≤ S2x512x200.size a := fun arg3_r0 k0_hw1 => k0_hw1

def k0_off2 (arg5_r0 : BitVec 32) : Fin 3 → Nat :=
  let c2_i32_76_r0 : BitVec 32 := 2#32
  let v90_r0 : BitVec 32 := Scalar.remui arg5_r0 c2_i32_76_r0
  let v280_r0 : Index := Scalar.indexCast v90_r0
  let c0_120_r0 : Index := 0#32
  let c0_121_r0 : Index := 0#32
  ![v280_r0.toNat, 0, 0]

def k0_chk2 (arg5_r0 : BitVec 32) : Prop :=
  (∀ a, (k0_off2 arg5_r0) a + S1x512x200.size a ≤ S2x512x200.size a)
theorem k0_off2_inb : ∀ (arg5_r0 : BitVec 32) (k0_hw2 : k0_chk2 arg5_r0), ∀ a, (k0_off2 arg5_r0) a + S1x512x200.size a ≤ S2x512x200.size a := fun arg5_r0 k0_hw2 => k0_hw2

def k0_off3 (arg3_r0 : BitVec 32) : Fin 1 → Nat :=
  let c2_i32_140_r0 : BitVec 32 := 2#32
  let v318_r0 : BitVec 32 := Scalar.remui arg3_r0 c2_i32_140_r0
  ![v318_r0.toNat]
def k0_cond3 (k0_t1 : Fin k0_t1_loop.trips) (arg7_r0 : BitVec 32) : BitVec 1 :=
  let c0_i32_51_r0 : BitVec 32 := 0#32
  let v53_r0 : BitVec 32 := Scalar.addi arg7_r0 c0_i32_51_r0
  let true_58_r0 : BitVec 1 := 1#1
  let c1_i32_57_r0 : BitVec 32 := 1#32
  let v59_r0 : BitVec 32 := Scalar.addi arg7_r0 c1_i32_57_r0
  let v60_r0 : BitVec 32 := Scalar.select true_58_r0 v59_r0 arg7_r0
  let c32_i32_59_r0 : BitVec 32 := 32#32
  let v61_r0 : BitVec 1 := Scalar.cmpi .eq v60_r0 c32_i32_59_r0
  let c0_i32_60_r0 : BitVec 32 := 0#32
  let v62_r0 : BitVec 32 := Scalar.select v61_r0 c0_i32_60_r0 v60_r0
  let c0_i32_61_r0 : BitVec 32 := 0#32
  let v63_r0 : BitVec 32 := Scalar.addi v62_r0 c0_i32_61_r0
  let v284_r0 : BitVec 1 := Scalar.cmpi .ne v53_r0 v63_r0
  let c0_i32_17_r0 : BitVec 32 := 0#32
  let c1_i32_19_r0 : BitVec 32 := 1#32
  let arg2_r0 : BitVec 32 := Scf.iv c0_i32_17_r0 c1_i32_19_r0 k0_t1
  let c31_i32_50_r0 : BitVec 32 := 31#32
  let v52_r0 : BitVec 1 := Scalar.cmpi .eq arg2_r0 c31_i32_50_r0
  let v285_r0 : BitVec 1 := Scalar.ori v284_r0 v52_r0
  let v286_r0 : BitVec 32 := Scalar.extui v285_r0
  let c0_i32_122_r0 : BitVec 32 := 0#32
  let v287_r0 : BitVec 1 := Scalar.cmpi .ne v286_r0 c0_i32_122_r0
  v287_r0

def k0_off4 (arg7_r0 : BitVec 32) : Fin 2 → Nat :=
  let c512_i32_141_r0 : BitVec 32 := 512#32
  let c0_i32_51_r0 : BitVec 32 := 0#32
  let v53_r0 : BitVec 32 := Scalar.addi arg7_r0 c0_i32_51_r0
  let v319_r0 : BitVec 32 := Scalar.muli c512_i32_141_r0 v53_r0
  let c0_i32_142_r0 : BitVec 32 := 0#32
  ![v319_r0.toNat, 0]
def k0_off5 (arg3_r0 : BitVec 32) : Fin 3 → Nat :=
  let c2_i32_140_r0 : BitVec 32 := 2#32
  let v318_r0 : BitVec 32 := Scalar.remui arg3_r0 c2_i32_140_r0
  let c0_i32_143_r0 : BitVec 32 := 0#32
  let c0_i32_144_r0 : BitVec 32 := 0#32
  ![v318_r0.toNat, 0, 0]
def k0_off6 (arg5_r0 : BitVec 32) : Fin 1 → Nat :=
  let c2_i32_140_r0 : BitVec 32 := 2#32
  let v318_r0 : BitVec 32 := Scalar.remui arg5_r0 c2_i32_140_r0
  ![v318_r0.toNat]
def k0_cond4 (k0_t1 : Fin k0_t1_loop.trips) (arg7_r0 : BitVec 32) : BitVec 1 :=
  let c0_i32_51_r0 : BitVec 32 := 0#32
  let v53_r0 : BitVec 32 := Scalar.addi arg7_r0 c0_i32_51_r0
  let true_58_r0 : BitVec 1 := 1#1
  let c1_i32_57_r0 : BitVec 32 := 1#32
  let v59_r0 : BitVec 32 := Scalar.addi arg7_r0 c1_i32_57_r0
  let v60_r0 : BitVec 32 := Scalar.select true_58_r0 v59_r0 arg7_r0
  let c32_i32_59_r0 : BitVec 32 := 32#32
  let v61_r0 : BitVec 1 := Scalar.cmpi .eq v60_r0 c32_i32_59_r0
  let c0_i32_60_r0 : BitVec 32 := 0#32
  let v62_r0 : BitVec 32 := Scalar.select v61_r0 c0_i32_60_r0 v60_r0
  let c0_i32_61_r0 : BitVec 32 := 0#32
  let v63_r0 : BitVec 32 := Scalar.addi v62_r0 c0_i32_61_r0
  let v291_r0 : BitVec 1 := Scalar.cmpi .ne v53_r0 v63_r0
  let c0_i32_17_r0 : BitVec 32 := 0#32
  let c1_i32_19_r0 : BitVec 32 := 1#32
  let arg2_r0 : BitVec 32 := Scf.iv c0_i32_17_r0 c1_i32_19_r0 k0_t1
  let c31_i32_50_r0 : BitVec 32 := 31#32
  let v52_r0 : BitVec 1 := Scalar.cmpi .eq arg2_r0 c31_i32_50_r0
  let v292_r0 : BitVec 1 := Scalar.ori v291_r0 v52_r0
  let v293_r0 : BitVec 32 := Scalar.extui v292_r0
  let c0_i32_125_r0 : BitVec 32 := 0#32
  let v294_r0 : BitVec 1 := Scalar.cmpi .ne v293_r0 c0_i32_125_r0
  v294_r0

def k0_off7 (arg7_r0 : BitVec 32) : Fin 2 → Nat :=
  let c512_i32_141_r0 : BitVec 32 := 512#32
  let c0_i32_51_r0 : BitVec 32 := 0#32
  let v53_r0 : BitVec 32 := Scalar.addi arg7_r0 c0_i32_51_r0
  let v319_r0 : BitVec 32 := Scalar.muli c512_i32_141_r0 v53_r0
  let c0_i32_142_r0 : BitVec 32 := 0#32
  ![v319_r0.toNat, 0]
def k0_off8 (arg5_r0 : BitVec 32) : Fin 3 → Nat :=
  let c2_i32_140_r0 : BitVec 32 := 2#32
  let v318_r0 : BitVec 32 := Scalar.remui arg5_r0 c2_i32_140_r0
  let c0_i32_143_r0 : BitVec 32 := 0#32
  let c0_i32_144_r0 : BitVec 32 := 0#32
  ![v318_r0.toNat, 0, 0]
def k0_off9 (arg4_r0 : BitVec 32) : Fin 1 → Nat :=
  let c2_i32_140_r0 : BitVec 32 := 2#32
  let v318_r0 : BitVec 32 := Scalar.remui arg4_r0 c2_i32_140_r0
  ![v318_r0.toNat]
def k0_cond5 (k0_t1 : Fin k0_t1_loop.trips) (arg7_r0 : BitVec 32) : BitVec 1 :=
  let c0_i32_51_r0 : BitVec 32 := 0#32
  let v53_r0 : BitVec 32 := Scalar.addi arg7_r0 c0_i32_51_r0
  let true_53_r0 : BitVec 1 := 1#1
  let c1_i32_52_r0 : BitVec 32 := 1#32
  let v54_r0 : BitVec 32 := Scalar.subi arg7_r0 c1_i32_52_r0
  let v55_r0 : BitVec 32 := Scalar.select true_53_r0 v54_r0 arg7_r0
  let c_m1_i32_54_r0 : BitVec 32 := 4294967295#32
  let v56_r0 : BitVec 1 := Scalar.cmpi .eq v55_r0 c_m1_i32_54_r0
  let c31_i32_55_r0 : BitVec 32 := 31#32
  let v57_r0 : BitVec 32 := Scalar.select v56_r0 c31_i32_55_r0 v55_r0
  let c0_i32_56_r0 : BitVec 32 := 0#32
  let v58_r0 : BitVec 32 := Scalar.addi v57_r0 c0_i32_56_r0
  let v298_r0 : BitVec 1 := Scalar.cmpi .ne v53_r0 v58_r0
  let c0_i32_17_r0 : BitVec 32 := 0#32
  let c1_i32_19_r0 : BitVec 32 := 1#32
  let arg2_r0 : BitVec 32 := Scf.iv c0_i32_17_r0 c1_i32_19_r0 k0_t1
  let c0_i32_49_r0 : BitVec 32 := 0#32
  let v51_r0 : BitVec 1 := Scalar.cmpi .eq arg2_r0 c0_i32_49_r0
  let true_128_r0 : BitVec 1 := 1#1
  let v299_r0 : BitVec 1 := Scalar.xori v51_r0 true_128_r0
  let v300_r0 : BitVec 1 := Scalar.andi v298_r0 v299_r0
  let v301_r0 : BitVec 32 := Scalar.extui v300_r0
  let c0_i32_129_r0 : BitVec 32 := 0#32
  let v302_r0 : BitVec 1 := Scalar.cmpi .ne v301_r0 c0_i32_129_r0
  v302_r0

def k0_off10 (arg7_r0 : BitVec 32) : Fin 2 → Nat :=
  let c512_i32_141_r0 : BitVec 32 := 512#32
  let true_53_r0 : BitVec 1 := 1#1
  let c1_i32_52_r0 : BitVec 32 := 1#32
  let v54_r0 : BitVec 32 := Scalar.subi arg7_r0 c1_i32_52_r0
  let v55_r0 : BitVec 32 := Scalar.select true_53_r0 v54_r0 arg7_r0
  let c_m1_i32_54_r0 : BitVec 32 := 4294967295#32
  let v56_r0 : BitVec 1 := Scalar.cmpi .eq v55_r0 c_m1_i32_54_r0
  let c31_i32_55_r0 : BitVec 32 := 31#32
  let v57_r0 : BitVec 32 := Scalar.select v56_r0 c31_i32_55_r0 v55_r0
  let c0_i32_56_r0 : BitVec 32 := 0#32
  let v58_r0 : BitVec 32 := Scalar.addi v57_r0 c0_i32_56_r0
  let v319_r0 : BitVec 32 := Scalar.muli c512_i32_141_r0 v58_r0
  let c0_i32_142_r0 : BitVec 32 := 0#32
  ![v319_r0.toNat, 0]
def k0_off11 (arg4_r0 : BitVec 32) : Fin 3 → Nat :=
  let c2_i32_140_r0 : BitVec 32 := 2#32
  let v318_r0 : BitVec 32 := Scalar.remui arg4_r0 c2_i32_140_r0
  let c0_i32_143_r0 : BitVec 32 := 0#32
  let c0_i32_144_r0 : BitVec 32 := 0#32
  ![v318_r0.toNat, 0, 0]
def k0_off12 (arg6_r0 : BitVec 32) : Fin 1 → Nat :=
  let c2_i32_140_r0 : BitVec 32 := 2#32
  let v318_r0 : BitVec 32 := Scalar.remui arg6_r0 c2_i32_140_r0
  ![v318_r0.toNat]
def k0_cond6 (k0_t1 : Fin k0_t1_loop.trips) (arg7_r0 : BitVec 32) : BitVec 1 :=
  let c0_i32_51_r0 : BitVec 32 := 0#32
  let v53_r0 : BitVec 32 := Scalar.addi arg7_r0 c0_i32_51_r0
  let true_53_r0 : BitVec 1 := 1#1
  let c1_i32_52_r0 : BitVec 32 := 1#32
  let v54_r0 : BitVec 32 := Scalar.subi arg7_r0 c1_i32_52_r0
  let v55_r0 : BitVec 32 := Scalar.select true_53_r0 v54_r0 arg7_r0
  let c_m1_i32_54_r0 : BitVec 32 := 4294967295#32
  let v56_r0 : BitVec 1 := Scalar.cmpi .eq v55_r0 c_m1_i32_54_r0
  let c31_i32_55_r0 : BitVec 32 := 31#32
  let v57_r0 : BitVec 32 := Scalar.select v56_r0 c31_i32_55_r0 v55_r0
  let c0_i32_56_r0 : BitVec 32 := 0#32
  let v58_r0 : BitVec 32 := Scalar.addi v57_r0 c0_i32_56_r0
  let v306_r0 : BitVec 1 := Scalar.cmpi .ne v53_r0 v58_r0
  let c0_i32_17_r0 : BitVec 32 := 0#32
  let c1_i32_19_r0 : BitVec 32 := 1#32
  let arg2_r0 : BitVec 32 := Scf.iv c0_i32_17_r0 c1_i32_19_r0 k0_t1
  let c0_i32_49_r0 : BitVec 32 := 0#32
  let v51_r0 : BitVec 1 := Scalar.cmpi .eq arg2_r0 c0_i32_49_r0
  let true_132_r0 : BitVec 1 := 1#1
  let v307_r0 : BitVec 1 := Scalar.xori v51_r0 true_132_r0
  let v308_r0 : BitVec 1 := Scalar.andi v306_r0 v307_r0
  let v309_r0 : BitVec 32 := Scalar.extui v308_r0
  let c0_i32_133_r0 : BitVec 32 := 0#32
  let v310_r0 : BitVec 1 := Scalar.cmpi .ne v309_r0 c0_i32_133_r0
  v310_r0

def k0_off13 (arg7_r0 : BitVec 32) : Fin 2 → Nat :=
  let c512_i32_141_r0 : BitVec 32 := 512#32
  let true_53_r0 : BitVec 1 := 1#1
  let c1_i32_52_r0 : BitVec 32 := 1#32
  let v54_r0 : BitVec 32 := Scalar.subi arg7_r0 c1_i32_52_r0
  let v55_r0 : BitVec 32 := Scalar.select true_53_r0 v54_r0 arg7_r0
  let c_m1_i32_54_r0 : BitVec 32 := 4294967295#32
  let v56_r0 : BitVec 1 := Scalar.cmpi .eq v55_r0 c_m1_i32_54_r0
  let c31_i32_55_r0 : BitVec 32 := 31#32
  let v57_r0 : BitVec 32 := Scalar.select v56_r0 c31_i32_55_r0 v55_r0
  let c0_i32_56_r0 : BitVec 32 := 0#32
  let v58_r0 : BitVec 32 := Scalar.addi v57_r0 c0_i32_56_r0
  let v319_r0 : BitVec 32 := Scalar.muli c512_i32_141_r0 v58_r0
  let c0_i32_142_r0 : BitVec 32 := 0#32
  ![v319_r0.toNat, 0]
def k0_off14 (arg6_r0 : BitVec 32) : Fin 3 → Nat :=
  let c2_i32_140_r0 : BitVec 32 := 2#32
  let v318_r0 : BitVec 32 := Scalar.remui arg6_r0 c2_i32_140_r0
  let c0_i32_143_r0 : BitVec 32 := 0#32
  let c0_i32_144_r0 : BitVec 32 := 0#32
  ![v318_r0.toNat, 0, 0]

def k0_chk3 (k0_t1 : Fin k0_t1_loop.trips) (arg3_r0 : BitVec 32) (arg4_r0 : BitVec 32) (arg5_r0 : BitVec 32) (arg6_r0 : BitVec 32) (arg7_r0 : BitVec 32) : Prop :=
  (∀ (k0_h3 : k0_cond3 k0_t1 arg7_r0 = 1#1), ∀ a, (k0_off3 arg3_r0) a + S1.size a ≤ S2.size a) ∧
  (∀ (k0_h3 : k0_cond3 k0_t1 arg7_r0 = 1#1), ∀ a, (k0_off4 arg7_r0) a + S512x200.size a ≤ S16384x200.size a) ∧
  (∀ (k0_h3 : k0_cond3 k0_t1 arg7_r0 = 1#1), ∀ a, (k0_off5 arg3_r0) a + S1x512x200.size a ≤ S2x512x200.size a) ∧
  (∀ (k0_h4 : k0_cond4 k0_t1 arg7_r0 = 1#1), ∀ a, (k0_off6 arg5_r0) a + S1.size a ≤ S2.size a) ∧
  (∀ (k0_h4 : k0_cond4 k0_t1 arg7_r0 = 1#1), ∀ a, (k0_off7 arg7_r0) a + S512x200.size a ≤ S16384x200.size a) ∧
  (∀ (k0_h4 : k0_cond4 k0_t1 arg7_r0 = 1#1), ∀ a, (k0_off8 arg5_r0) a + S1x512x200.size a ≤ S2x512x200.size a) ∧
  (∀ (k0_h5 : k0_cond5 k0_t1 arg7_r0 = 1#1), ∀ a, (k0_off9 arg4_r0) a + S1.size a ≤ S2.size a) ∧
  (∀ (k0_h5 : k0_cond5 k0_t1 arg7_r0 = 1#1), ∀ a, (k0_off10 arg7_r0) a + S512x200.size a ≤ S16384x200.size a) ∧
  (∀ (k0_h5 : k0_cond5 k0_t1 arg7_r0 = 1#1), ∀ a, (k0_off11 arg4_r0) a + S1x512x200.size a ≤ S2x512x200.size a) ∧
  (∀ (k0_h6 : k0_cond6 k0_t1 arg7_r0 = 1#1), ∀ a, (k0_off12 arg6_r0) a + S1.size a ≤ S2.size a) ∧
  (∀ (k0_h6 : k0_cond6 k0_t1 arg7_r0 = 1#1), ∀ a, (k0_off13 arg7_r0) a + S512x200.size a ≤ S16384x200.size a) ∧
  (∀ (k0_h6 : k0_cond6 k0_t1 arg7_r0 = 1#1), ∀ a, (k0_off14 arg6_r0) a + S1x512x200.size a ≤ S2x512x200.size a)
theorem k0_off3_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h3 : k0_cond3 k0_t1 arg7_r0 = 1#1), ∀ a, (k0_off3 arg3_r0) a + S1.size a ≤ S2.size a := fun k0_t1 arg3_r0 arg4_r0 arg5_r0 arg6_r0 arg7_r0 k0_hw3 k0_h3 => k0_hw3.1 k0_h3
theorem k0_off4_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h3 : k0_cond3 k0_t1 arg7_r0 = 1#1), ∀ a, (k0_off4 arg7_r0) a + S512x200.size a ≤ S16384x200.size a := fun k0_t1 arg3_r0 arg4_r0 arg5_r0 arg6_r0 arg7_r0 k0_hw3 k0_h3 => k0_hw3.2.1 k0_h3
theorem k0_off5_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h3 : k0_cond3 k0_t1 arg7_r0 = 1#1), ∀ a, (k0_off5 arg3_r0) a + S1x512x200.size a ≤ S2x512x200.size a := fun k0_t1 arg3_r0 arg4_r0 arg5_r0 arg6_r0 arg7_r0 k0_hw3 k0_h3 => k0_hw3.2.2.1 k0_h3
theorem k0_off6_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h4 : k0_cond4 k0_t1 arg7_r0 = 1#1), ∀ a, (k0_off6 arg5_r0) a + S1.size a ≤ S2.size a := fun k0_t1 arg3_r0 arg4_r0 arg5_r0 arg6_r0 arg7_r0 k0_hw3 k0_h4 => k0_hw3.2.2.2.1 k0_h4
theorem k0_off7_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h4 : k0_cond4 k0_t1 arg7_r0 = 1#1), ∀ a, (k0_off7 arg7_r0) a + S512x200.size a ≤ S16384x200.size a := fun k0_t1 arg3_r0 arg4_r0 arg5_r0 arg6_r0 arg7_r0 k0_hw3 k0_h4 => k0_hw3.2.2.2.2.1 k0_h4
theorem k0_off8_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h4 : k0_cond4 k0_t1 arg7_r0 = 1#1), ∀ a, (k0_off8 arg5_r0) a + S1x512x200.size a ≤ S2x512x200.size a := fun k0_t1 arg3_r0 arg4_r0 arg5_r0 arg6_r0 arg7_r0 k0_hw3 k0_h4 => k0_hw3.2.2.2.2.2.1 k0_h4
theorem k0_off9_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h5 : k0_cond5 k0_t1 arg7_r0 = 1#1), ∀ a, (k0_off9 arg4_r0) a + S1.size a ≤ S2.size a := fun k0_t1 arg3_r0 arg4_r0 arg5_r0 arg6_r0 arg7_r0 k0_hw3 k0_h5 => k0_hw3.2.2.2.2.2.2.1 k0_h5
theorem k0_off10_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h5 : k0_cond5 k0_t1 arg7_r0 = 1#1), ∀ a, (k0_off10 arg7_r0) a + S512x200.size a ≤ S16384x200.size a := fun k0_t1 arg3_r0 arg4_r0 arg5_r0 arg6_r0 arg7_r0 k0_hw3 k0_h5 => k0_hw3.2.2.2.2.2.2.2.1 k0_h5
theorem k0_off11_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h5 : k0_cond5 k0_t1 arg7_r0 = 1#1), ∀ a, (k0_off11 arg4_r0) a + S1x512x200.size a ≤ S2x512x200.size a := fun k0_t1 arg3_r0 arg4_r0 arg5_r0 arg6_r0 arg7_r0 k0_hw3 k0_h5 => k0_hw3.2.2.2.2.2.2.2.2.1 k0_h5
theorem k0_off12_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h6 : k0_cond6 k0_t1 arg7_r0 = 1#1), ∀ a, (k0_off12 arg6_r0) a + S1.size a ≤ S2.size a := fun k0_t1 arg3_r0 arg4_r0 arg5_r0 arg6_r0 arg7_r0 k0_hw3 k0_h6 => k0_hw3.2.2.2.2.2.2.2.2.2.1 k0_h6
theorem k0_off13_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h6 : k0_cond6 k0_t1 arg7_r0 = 1#1), ∀ a, (k0_off13 arg7_r0) a + S512x200.size a ≤ S16384x200.size a := fun k0_t1 arg3_r0 arg4_r0 arg5_r0 arg6_r0 arg7_r0 k0_hw3 k0_h6 => k0_hw3.2.2.2.2.2.2.2.2.2.2.1 k0_h6
theorem k0_off14_inb : ∀ (k0_t1 : Fin k0_t1_loop.trips) (arg3_r0 : BitVec 32) (arg4_r0 : BitVec 32) (arg5_r0 : BitVec 32) (arg6_r0 : BitVec 32) (arg7_r0 : BitVec 32) (k0_hw3 : k0_chk3 k0_t1 arg3_r0 arg4_r0 arg5_r0 arg6_r0 arg7_r0), ∀ (k0_h6 : k0_cond6 k0_t1 arg7_r0 = 1#1), ∀ a, (k0_off14 arg6_r0) a + S1x512x200.size a ≤ S2x512x200.size a := fun k0_t1 arg3_r0 arg4_r0 arg5_r0 arg6_r0 arg7_r0 k0_hw3 k0_h6 => k0_hw3.2.2.2.2.2.2.2.2.2.2.2 k0_h6

def k0_off15 (v16_1_r0 : BitVec 32) : Fin 1 → Nat :=
  let c2_i32_r0 : BitVec 32 := 2#32
  let v37_r0 : BitVec 32 := Scalar.remui v16_1_r0 c2_i32_r0
  ![v37_r0.toNat]

def k0_off16 (v16_4_r0 : BitVec 32) : Fin 2 → Nat :=
  let c512_i32_r0 : BitVec 32 := 512#32
  let true_22_r0 : BitVec 1 := 1#1
  let c1_i32_21_r0 : BitVec 32 := 1#32
  let v17_r0 : BitVec 32 := Scalar.subi v16_4_r0 c1_i32_21_r0
  let v18_r0 : BitVec 32 := Scalar.select true_22_r0 v17_r0 v16_4_r0
  let c_m1_i32_23_r0 : BitVec 32 := 4294967295#32
  let v19_r0 : BitVec 1 := Scalar.cmpi .eq v18_r0 c_m1_i32_23_r0
  let c31_i32_24_r0 : BitVec 32 := 31#32
  let v20_r0 : BitVec 32 := Scalar.select v19_r0 c31_i32_24_r0 v18_r0
  let c0_i32_25_r0 : BitVec 32 := 0#32
  let v21_r0 : BitVec 32 := Scalar.addi v20_r0 c0_i32_25_r0
  let v38_r0 : BitVec 32 := Scalar.muli c512_i32_r0 v21_r0
  let c0_i32_41_r0 : BitVec 32 := 0#32
  ![v38_r0.toNat, 0]

def k0_off17 (v16_1_r0 : BitVec 32) : Fin 3 → Nat :=
  let c2_i32_r0 : BitVec 32 := 2#32
  let v37_r0 : BitVec 32 := Scalar.remui v16_1_r0 c2_i32_r0
  let c0_i32_42_r0 : BitVec 32 := 0#32
  let c0_i32_43_r0 : BitVec 32 := 0#32
  ![v37_r0.toNat, 0, 0]

def k0_chk4 (v16_1_r0 : BitVec 32) : Prop :=
  (∀ a, (k0_off15 v16_1_r0) a + S1.size a ≤ S2.size a) ∧
  (∀ a, (k0_off17 v16_1_r0) a + S1x512x200.size a ≤ S2x512x200.size a)
theorem k0_off15_inb : ∀ (v16_1_r0 : BitVec 32) (k0_hw4 : k0_chk4 v16_1_r0), ∀ a, (k0_off15 v16_1_r0) a + S1.size a ≤ S2.size a := fun v16_1_r0 k0_hw4 => k0_hw4.1
theorem k0_off17_inb : ∀ (v16_1_r0 : BitVec 32) (k0_hw4 : k0_chk4 v16_1_r0), ∀ a, (k0_off17 v16_1_r0) a + S1x512x200.size a ≤ S2x512x200.size a := fun v16_1_r0 k0_hw4 => k0_hw4.2

def k0_off18 (v16_3_r0 : BitVec 32) : Fin 1 → Nat :=
  let c2_i32_44_r0 : BitVec 32 := 2#32
  let v44_r0 : BitVec 32 := Scalar.remui v16_3_r0 c2_i32_44_r0
  ![v44_r0.toNat]

def k0_off19 (v16_4_r0 : BitVec 32) : Fin 2 → Nat :=
  let c512_i32_45_r0 : BitVec 32 := 512#32
  let true_22_r0 : BitVec 1 := 1#1
  let c1_i32_21_r0 : BitVec 32 := 1#32
  let v17_r0 : BitVec 32 := Scalar.subi v16_4_r0 c1_i32_21_r0
  let v18_r0 : BitVec 32 := Scalar.select true_22_r0 v17_r0 v16_4_r0
  let c_m1_i32_23_r0 : BitVec 32 := 4294967295#32
  let v19_r0 : BitVec 1 := Scalar.cmpi .eq v18_r0 c_m1_i32_23_r0
  let c31_i32_24_r0 : BitVec 32 := 31#32
  let v20_r0 : BitVec 32 := Scalar.select v19_r0 c31_i32_24_r0 v18_r0
  let c0_i32_25_r0 : BitVec 32 := 0#32
  let v21_r0 : BitVec 32 := Scalar.addi v20_r0 c0_i32_25_r0
  let v45_r0 : BitVec 32 := Scalar.muli c512_i32_45_r0 v21_r0
  let c0_i32_46_r0 : BitVec 32 := 0#32
  ![v45_r0.toNat, 0]

def k0_chk5 (v16_4_r0 : BitVec 32) : Prop :=
  (∀ a, (k0_off16 v16_4_r0) a + S512x200.size a ≤ S16384x200.size a) ∧
  (∀ a, (k0_off19 v16_4_r0) a + S512x200.size a ≤ S16384x200.size a)
theorem k0_off16_inb : ∀ (v16_4_r0 : BitVec 32) (k0_hw5 : k0_chk5 v16_4_r0), ∀ a, (k0_off16 v16_4_r0) a + S512x200.size a ≤ S16384x200.size a := fun v16_4_r0 k0_hw5 => k0_hw5.1
theorem k0_off19_inb : ∀ (v16_4_r0 : BitVec 32) (k0_hw5 : k0_chk5 v16_4_r0), ∀ a, (k0_off19 v16_4_r0) a + S512x200.size a ≤ S16384x200.size a := fun v16_4_r0 k0_hw5 => k0_hw5.2

def k0_off20 (v16_3_r0 : BitVec 32) : Fin 3 → Nat :=
  let c2_i32_44_r0 : BitVec 32 := 2#32
  let v44_r0 : BitVec 32 := Scalar.remui v16_3_r0 c2_i32_44_r0
  let c0_i32_47_r0 : BitVec 32 := 0#32
  let c0_i32_48_r0 : BitVec 32 := 0#32
  ![v44_r0.toNat, 0, 0]

def k0_chk6 (v16_3_r0 : BitVec 32) : Prop :=
  (∀ a, (k0_off18 v16_3_r0) a + S1.size a ≤ S2.size a) ∧
  (∀ a, (k0_off20 v16_3_r0) a + S1x512x200.size a ≤ S2x512x200.size a)
theorem k0_off18_inb : ∀ (v16_3_r0 : BitVec 32) (k0_hw6 : k0_chk6 v16_3_r0), ∀ a, (k0_off18 v16_3_r0) a + S1.size a ≤ S2.size a := fun v16_3_r0 k0_hw6 => k0_hw6.1
theorem k0_off20_inb : ∀ (v16_3_r0 : BitVec 32) (k0_hw6 : k0_chk6 v16_3_r0), ∀ a, (k0_off20 v16_3_r0) a + S1x512x200.size a ≤ S2x512x200.size a := fun v16_3_r0 k0_hw6 => k0_hw6.2
-- ==== KernelIdeal.lean ====
variable {F : FTy → Type} [FloatOps F] [Named F]
def κ : String → Option EReal := fun
  | "neg_log_items" => some ((-(Real.log 1000000) : ℝ) : EReal)
  | _ => none
-- ==== ReferenceIdeal.lean ====
abbrev S16384 : Shape := ⟨1, ![16384]⟩
abbrev S16384x200 : Shape := ⟨2, ![16384, 200]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩

abbrev nBuf : Space → Nat
  | .hbm => 1028
  | .vmem => 0
  | .smem => 0
  | _ => 0

abbrev hbmTy0_0 (i : Nat) : BufTy := match i % 128 with
  | 0 => ⟨S16384, .i32⟩
  | 1 => ⟨S16384x200, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S16384, .i32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16384, .i32⟩

abbrev hbmTy0_2 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S1x1, .i32⟩
  | 12 => ⟨S1x1, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16384, .i32⟩

abbrev hbmTy0_3 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S16384, .i32⟩

abbrev hbmTy0_4 (i : Nat) : BufTy := match i % 128 with
  | 0 => ⟨S_, .i32⟩
  | 1 => ⟨S1, .i32⟩
  | 2 => ⟨S_, .i32⟩
  | 3 => ⟨S16384x200, .i64⟩
  | 4 => ⟨S16384x200, .i64⟩
  | 5 => ⟨S_, .i64⟩
  | 6 => ⟨S16384x200, .i64⟩
  | 7 => ⟨S16384x200, .i64⟩
  | 8 => ⟨S_, .i64⟩
  | 9 => ⟨S16384x200, .i64⟩
  | 10 => ⟨S16384x200, .i64⟩
  | 11 => ⟨S16384x200, .i64⟩
  | 12 => ⟨S_, .i64⟩
  | 13 => ⟨S16384x200, .i64⟩
  | 14 => ⟨S16384x200, .i64⟩
  | 15 => ⟨S16384x200, .i32⟩
  | 16 => ⟨S16384x200, .i32⟩
  | 17 => ⟨S_, .i32⟩
  | 18 => ⟨S_, .i32⟩
  | 19 => ⟨S_, .i32⟩
  | 20 => ⟨S16384x200, .i32⟩
  | 21 => ⟨S16384x200, .i32⟩
  | 22 => ⟨S16384x200, .i32⟩
  | 23 => ⟨S16384x200, .i32⟩
  | 24 => ⟨S16384x200, .i32⟩
  | 25 => ⟨S_, .i32⟩
  | 26 => ⟨S16384x200, .i32⟩
  | 27 => ⟨S16384x200, .i32⟩
  | 28 => ⟨S_, .i32⟩
  | 29 => ⟨S16384x200, .i32⟩
  | 30 => ⟨S16384x200, .i32⟩
  | 31 => ⟨S16384x200, .i32⟩
  | 32 => ⟨S16384x200, .i32⟩
  | 33 => ⟨S16384x200, .i32⟩
  | 34 => ⟨S_, .i32⟩
  | 35 => ⟨S16384x200, .i32⟩
  | 36 => ⟨S16384x200, .i32⟩
  | 37 => ⟨S_, .i32⟩
  | 38 => ⟨S16384x200, .i32⟩
  | 39 => ⟨S16384x200, .i32⟩
  | 40 => ⟨S16384x200, .i32⟩
  | 41 => ⟨S16384x200, .i32⟩
  | 42 => ⟨S16384x200, .i32⟩
  | 43 => ⟨S_, .i32⟩
  | 44 => ⟨S16384x200, .i32⟩
  | 45 => ⟨S16384x200, .i32⟩
  | 46 => ⟨S_, .i32⟩
  | 47 => ⟨S16384x200, .i32⟩
  | 48 => ⟨S16384x200, .i32⟩
  | 49 => ⟨S16384x200, .i32⟩
  | 50 => ⟨S16384x200, .i32⟩
  | 51 => ⟨S16384x200, .i32⟩
  | 52 => ⟨S_, .i32⟩
  | 53 => ⟨S16384x200, .i32⟩
  | 54 => ⟨S16384x200, .i32⟩
  | 55 => ⟨S_, .i32⟩
  | 56 => ⟨S16384x200, .i32⟩
  | 57 => ⟨S16384x200, .i32⟩
  | 58 => ⟨S16384x200, .i32⟩
  | 59 => ⟨S16384x200, .i32⟩
  | 60 => ⟨S16384x200, .i32⟩
  | 61 => ⟨S16384x200, .i32⟩
  | 62 => ⟨S16384x200, .i32⟩
  | 63 => ⟨S16384x200, .i32⟩
  | 64 => ⟨S_, .i32⟩
  | 65 => ⟨S16384x200, .i32⟩
  | 66 => ⟨S16384x200, .i32⟩
  | 67 => ⟨S16384x200, .i32⟩
  | 68 => ⟨S_, .i32⟩
  | 69 => ⟨S16384x200, .i32⟩
  | 70 => ⟨S16384x200, .i32⟩
  | 71 => ⟨S_, .i32⟩
  | 72 => ⟨S16384x200, .i32⟩
  | 73 => ⟨S16384x200, .i32⟩
  | 74 => ⟨S16384x200, .i32⟩
  | 75 => ⟨S16384x200, .i32⟩
  | 76 => ⟨S16384x200, .i32⟩
  | 77 => ⟨S_, .i32⟩
  | 78 => ⟨S16384x200, .i32⟩
  | 79 => ⟨S16384x200, .i32⟩
  | 80 => ⟨S_, .i32⟩
  | 81 => ⟨S16384x200, .i32⟩
  | 82 => ⟨S16384x200, .i32⟩
  | 83 => ⟨S16384x200, .i32⟩
  | 84 => ⟨S16384x200, .i32⟩
  | 85 => ⟨S16384x200, .i32⟩
  | 86 => ⟨S_, .i32⟩
  | 87 => ⟨S16384x200, .i32⟩
  | 88 => ⟨S16384x200, .i32⟩
  | 89 => ⟨S_, .i32⟩
  | 90 => ⟨S16384x200, .i32⟩
  | 91 => ⟨S16384x200, .i32⟩
  | 92 => ⟨S16384x200, .i32⟩
  | 93 => ⟨S16384x200, .i32⟩
  | 94 => ⟨S16384x200, .i32⟩
  | 95 => ⟨S_, .i32⟩
  | 96 => ⟨S16384x200, .i32⟩
  | 97 => ⟨S16384x200, .i32⟩
  | 98 => ⟨S_, .i32⟩
  | 99 => ⟨S16384x200, .i32⟩
  | 100 => ⟨S16384x200, .i32⟩
  | 101 => ⟨S16384x200, .i32⟩
  | 102 => ⟨S16384x200, .i32⟩
  | 103 => ⟨S16384x200, .i32⟩
  | 104 => ⟨S16384x200, .i32⟩
  | 105 => ⟨S16384x200, .i32⟩
  | 106 => ⟨S16384x200, .i32⟩
  | 107 => ⟨S_, .i32⟩
  | 108 => ⟨S16384x200, .i32⟩
  | 109 => ⟨S16384x200, .i32⟩
  | 110 => ⟨S16384x200, .i32⟩
  | 111 => ⟨S_, .i32⟩
  | 112 => ⟨S16384x200, .i32⟩
  | 113 => ⟨S16384x200, .i32⟩
  | 114 => ⟨S_, .i32⟩
  | 115 => ⟨S16384x200, .i32⟩
  | 116 => ⟨S16384x200, .i32⟩
  | 117 => ⟨S16384x200, .i32⟩
  | 118 => ⟨S16384x200, .i32⟩
  | 119 => ⟨S16384x200, .i32⟩
  | 120 => ⟨S_, .i32⟩
  | 121 => ⟨S16384x200, .i32⟩
  | 122 => ⟨S16384x200, .i32⟩
  | 123 => ⟨S_, .i32⟩
  | 124 => ⟨S16384x200, .i32⟩
  | 125 => ⟨S16384x200, .i32⟩
  | 126 => ⟨S16384x200, .i32⟩
  | 127 => ⟨S16384x200, .i32⟩
  | _ => ⟨S16384, .i32⟩

abbrev hbmTy0_5 (i : Nat) : BufTy := match i % 128 with
  | 0 => ⟨S16384x200, .i32⟩
  | 1 => ⟨S_, .i32⟩
  | 2 => ⟨S16384x200, .i32⟩
  | 3 => ⟨S16384x200, .i32⟩
  | 4 => ⟨S_, .i32⟩
  | 5 => ⟨S16384x200, .i32⟩
  | 6 => ⟨S16384x200, .i32⟩
  | 7 => ⟨S16384x200, .i32⟩
  | 8 => ⟨S16384x200, .i32⟩
  | 9 => ⟨S16384x200, .i32⟩
  | 10 => ⟨S_, .i32⟩
  | 11 => ⟨S16384x200, .i32⟩
  | 12 => ⟨S16384x200, .i32⟩
  | 13 => ⟨S_, .i32⟩
  | 14 => ⟨S16384x200, .i32⟩
  | 15 => ⟨S16384x200, .i32⟩
  | 16 => ⟨S16384x200, .i32⟩
  | 17 => ⟨S16384x200, .i32⟩
  | 18 => ⟨S16384x200, .i32⟩
  | 19 => ⟨S16384x200, .i32⟩
  | 20 => ⟨S16384x200, .i32⟩
  | 21 => ⟨S16384x200, .i32⟩
  | 22 => ⟨S_, .i32⟩
  | 23 => ⟨S16384x200, .i32⟩
  | 24 => ⟨S16384x200, .i32⟩
  | 25 => ⟨S16384x200, .i32⟩
  | 26 => ⟨S_, .i32⟩
  | 27 => ⟨S16384x200, .i32⟩
  | 28 => ⟨S16384x200, .i32⟩
  | 29 => ⟨S_, .i32⟩
  | 30 => ⟨S16384x200, .i32⟩
  | 31 => ⟨S16384x200, .i32⟩
  | 32 => ⟨S16384x200, .i32⟩
  | 33 => ⟨S16384x200, .i32⟩
  | 34 => ⟨S16384x200, .i32⟩
  | 35 => ⟨S_, .i32⟩
  | 36 => ⟨S16384x200, .i32⟩
  | 37 => ⟨S16384x200, .i32⟩
  | 38 => ⟨S_, .i32⟩
  | 39 => ⟨S16384x200, .i32⟩
  | 40 => ⟨S16384x200, .i32⟩
  | 41 => ⟨S16384x200, .i32⟩
  | 42 => ⟨S16384x200, .i32⟩
  | 43 => ⟨S16384x200, .i32⟩
  | 44 => ⟨S_, .i32⟩
  | 45 => ⟨S16384x200, .i32⟩
  | 46 => ⟨S16384x200, .i32⟩
  | 47 => ⟨S_, .i32⟩
  | 48 => ⟨S16384x200, .i32⟩
  | 49 => ⟨S16384x200, .i32⟩
  | 50 => ⟨S16384x200, .i32⟩
  | 51 => ⟨S16384x200, .i32⟩
  | 52 => ⟨S16384x200, .i32⟩
  | 53 => ⟨S_, .i32⟩
  | 54 => ⟨S16384x200, .i32⟩
  | 55 => ⟨S16384x200, .i32⟩
  | 56 => ⟨S_, .i32⟩
  | 57 => ⟨S16384x200, .i32⟩
  | 58 => ⟨S16384x200, .i32⟩
  | 59 => ⟨S16384x200, .i32⟩
  | 60 => ⟨S16384x200, .i32⟩
  | 61 => ⟨S16384x200, .i32⟩
  | 62 => ⟨S16384x200, .i32⟩
  | 63 => ⟨S16384x200, .i32⟩
  | 64 => ⟨S16384x200, .i32⟩
  | 65 => ⟨S_, .i32⟩
  | 66 => ⟨S16384x200, .i32⟩
  | 67 => ⟨S16384x200, .i32⟩
  | 68 => ⟨S16384x200, .i32⟩
  | 69 => ⟨S_, .i32⟩
  | 70 => ⟨S16384x200, .i32⟩
  | 71 => ⟨S16384x200, .i32⟩
  | 72 => ⟨S_, .i32⟩
  | 73 => ⟨S16384x200, .i32⟩
  | 74 => ⟨S16384x200, .i32⟩
  | 75 => ⟨S16384x200, .i32⟩
  | 76 => ⟨S16384x200, .i32⟩
  | 77 => ⟨S16384x200, .i32⟩
  | 78 => ⟨S_, .i32⟩
  | 79 => ⟨S16384x200, .i32⟩
  | 80 => ⟨S16384x200, .i32⟩
  | 81 => ⟨S_, .i32⟩
  | 82 => ⟨S16384x200, .i32⟩
  | 83 => ⟨S16384x200, .i32⟩
  | 84 => ⟨S16384x200, .i32⟩
  | 85 => ⟨S16384x200, .i32⟩
  | 86 => ⟨S16384x200, .i32⟩
  | 87 => ⟨S_, .i32⟩
  | 88 => ⟨S16384x200, .i32⟩
  | 89 => ⟨S16384x200, .i32⟩
  | 90 => ⟨S_, .i32⟩
  | 91 => ⟨S16384x200, .i32⟩
  | 92 => ⟨S16384x200, .i32⟩
  | 93 => ⟨S16384x200, .i32⟩
  | 94 => ⟨S16384x200, .i32⟩
  | 95 => ⟨S16384x200, .i32⟩
  | 96 => ⟨S_, .i32⟩
  | 97 => ⟨S16384x200, .i32⟩
  | 98 => ⟨S16384x200, .i32⟩
  | 99 => ⟨S_, .i32⟩
  | 100 => ⟨S16384x200, .i32⟩
  | 101 => ⟨S16384x200, .i32⟩
  | 102 => ⟨S16384x200, .i32⟩
  | 103 => ⟨S16384x200, .i32⟩
  | 104 => ⟨S16384x200, .i32⟩
  | 105 => ⟨S16384x200, .i32⟩
  | 106 => ⟨S16384x200, .i32⟩
  | 107 => ⟨S16384x200, .i32⟩
  | 108 => ⟨S_, .i32⟩
  | 109 => ⟨S16384x200, .i32⟩
  | 110 => ⟨S16384x200, .i32⟩
  | 111 => ⟨S16384x200, .i32⟩
  | 112 => ⟨S1, .i32⟩
  | 113 => ⟨S_, .i32⟩
  | 114 => ⟨S1, .i32⟩
  | 115 => ⟨S_, .i32⟩
  | 116 => ⟨S16384x200, .i64⟩
  | 117 => ⟨S16384x200, .i64⟩
  | 118 => ⟨S_, .i64⟩
  | 119 => ⟨S16384x200, .i64⟩
  | 120 => ⟨S16384x200, .i64⟩
  | 121 => ⟨S_, .i64⟩
  | 122 => ⟨S16384x200, .i64⟩
  | 123 => ⟨S16384x200, .i64⟩
  | 124 => ⟨S16384x200, .i64⟩
  | 125 => ⟨S_, .i64⟩
  | 126 => ⟨S16384x200, .i64⟩
  | 127 => ⟨S16384x200, .i64⟩
  | _ => ⟨S16384, .i32⟩

abbrev hbmTy0_6 (i : Nat) : BufTy := match i % 128 with
  | 0 => ⟨S16384x200, .i32⟩
  | 1 => ⟨S16384x200, .i32⟩
  | 2 => ⟨S_, .i32⟩
  | 3 => ⟨S_, .i32⟩
  | 4 => ⟨S_, .i32⟩
  | 5 => ⟨S16384x200, .i32⟩
  | 6 => ⟨S16384x200, .i32⟩
  | 7 => ⟨S16384x200, .i32⟩
  | 8 => ⟨S16384x200, .i32⟩
  | 9 => ⟨S16384x200, .i32⟩
  | 10 => ⟨S_, .i32⟩
  | 11 => ⟨S16384x200, .i32⟩
  | 12 => ⟨S16384x200, .i32⟩
  | 13 => ⟨S_, .i32⟩
  | 14 => ⟨S16384x200, .i32⟩
  | 15 => ⟨S16384x200, .i32⟩
  | 16 => ⟨S16384x200, .i32⟩
  | 17 => ⟨S16384x200, .i32⟩
  | 18 => ⟨S16384x200, .i32⟩
  | 19 => ⟨S_, .i32⟩
  | 20 => ⟨S16384x200, .i32⟩
  | 21 => ⟨S16384x200, .i32⟩
  | 22 => ⟨S_, .i32⟩
  | 23 => ⟨S16384x200, .i32⟩
  | 24 => ⟨S16384x200, .i32⟩
  | 25 => ⟨S16384x200, .i32⟩
  | 26 => ⟨S16384x200, .i32⟩
  | 27 => ⟨S16384x200, .i32⟩
  | 28 => ⟨S_, .i32⟩
  | 29 => ⟨S16384x200, .i32⟩
  | 30 => ⟨S16384x200, .i32⟩
  | 31 => ⟨S_, .i32⟩
  | 32 => ⟨S16384x200, .i32⟩
  | 33 => ⟨S16384x200, .i32⟩
  | 34 => ⟨S16384x200, .i32⟩
  | 35 => ⟨S16384x200, .i32⟩
  | 36 => ⟨S16384x200, .i32⟩
  | 37 => ⟨S_, .i32⟩
  | 38 => ⟨S16384x200, .i32⟩
  | 39 => ⟨S16384x200, .i32⟩
  | 40 => ⟨S_, .i32⟩
  | 41 => ⟨S16384x200, .i32⟩
  | 42 => ⟨S16384x200, .i32⟩
  | 43 => ⟨S16384x200, .i32⟩
  | 44 => ⟨S16384x200, .i32⟩
  | 45 => ⟨S16384x200, .i32⟩
  | 46 => ⟨S16384x200, .i32⟩
  | 47 => ⟨S16384x200, .i32⟩
  | 48 => ⟨S16384x200, .i32⟩
  | 49 => ⟨S_, .i32⟩
  | 50 => ⟨S16384x200, .i32⟩
  | 51 => ⟨S16384x200, .i32⟩
  | 52 => ⟨S16384x200, .i32⟩
  | 53 => ⟨S_, .i32⟩
  | 54 => ⟨S16384x200, .i32⟩
  | 55 => ⟨S16384x200, .i32⟩
  | 56 => ⟨S_, .i32⟩
  | 57 => ⟨S16384x200, .i32⟩
  | 58 => ⟨S16384x200, .i32⟩
  | 59 => ⟨S16384x200, .i32⟩
  | 60 => ⟨S16384x200, .i32⟩
  | 61 => ⟨S16384x200, .i32⟩
  | 62 => ⟨S_, .i32⟩
  | 63 => ⟨S16384x200, .i32⟩
  | 64 => ⟨S16384x200, .i32⟩
  | 65 => ⟨S_, .i32⟩
  | 66 => ⟨S16384x200, .i32⟩
  | 67 => ⟨S16384x200, .i32⟩
  | 68 => ⟨S16384x200, .i32⟩
  | 69 => ⟨S16384x200, .i32⟩
  | 70 => ⟨S16384x200, .i32⟩
  | 71 => ⟨S_, .i32⟩
  | 72 => ⟨S16384x200, .i32⟩
  | 73 => ⟨S16384x200, .i32⟩
  | 74 => ⟨S_, .i32⟩
  | 75 => ⟨S16384x200, .i32⟩
  | 76 => ⟨S16384x200, .i32⟩
  | 77 => ⟨S16384x200, .i32⟩
  | 78 => ⟨S16384x200, .i32⟩
  | 79 => ⟨S16384x200, .i32⟩
  | 80 => ⟨S_, .i32⟩
  | 81 => ⟨S16384x200, .i32⟩
  | 82 => ⟨S16384x200, .i32⟩
  | 83 => ⟨S_, .i32⟩
  | 84 => ⟨S16384x200, .i32⟩
  | 85 => ⟨S16384x200, .i32⟩
  | 86 => ⟨S16384x200, .i32⟩
  | 87 => ⟨S16384x200, .i32⟩
  | 88 => ⟨S16384x200, .i32⟩
  | 89 => ⟨S16384x200, .i32⟩
  | 90 => ⟨S16384x200, .i32⟩
  | 91 => ⟨S16384x200, .i32⟩
  | 92 => ⟨S_, .i32⟩
  | 93 => ⟨S16384x200, .i32⟩
  | 94 => ⟨S16384x200, .i32⟩
  | 95 => ⟨S16384x200, .i32⟩
  | 96 => ⟨S_, .i32⟩
  | 97 => ⟨S16384x200, .i32⟩
  | 98 => ⟨S16384x200, .i32⟩
  | 99 => ⟨S_, .i32⟩
  | 100 => ⟨S16384x200, .i32⟩
  | 101 => ⟨S16384x200, .i32⟩
  | 102 => ⟨S16384x200, .i32⟩
  | 103 => ⟨S16384x200, .i32⟩
  | 104 => ⟨S16384x200, .i32⟩
  | 105 => ⟨S_, .i32⟩
  | 106 => ⟨S16384x200, .i32⟩
  | 107 => ⟨S16384x200, .i32⟩
  | 108 => ⟨S_, .i32⟩
  | 109 => ⟨S16384x200, .i32⟩
  | 110 => ⟨S16384x200, .i32⟩
  | 111 => ⟨S16384x200, .i32⟩
  | 112 => ⟨S16384x200, .i32⟩
  | 113 => ⟨S16384x200, .i32⟩
  | 114 => ⟨S_, .i32⟩
  | 115 => ⟨S16384x200, .i32⟩
  | 116 => ⟨S16384x200, .i32⟩
  | 117 => ⟨S_, .i32⟩
  | 118 => ⟨S16384x200, .i32⟩
  | 119 => ⟨S16384x200, .i32⟩
  | 120 => ⟨S16384x200, .i32⟩
  | 121 => ⟨S16384x200, .i32⟩
  | 122 => ⟨S16384x200, .i32⟩
  | 123 => ⟨S_, .i32⟩
  | 124 => ⟨S16384x200, .i32⟩
  | 125 => ⟨S16384x200, .i32⟩
  | 126 => ⟨S_, .i32⟩
  | 127 => ⟨S16384x200, .i32⟩
  | _ => ⟨S16384, .i32⟩

abbrev hbmTy0_7 (i : Nat) : BufTy := match i % 128 with
  | 0 => ⟨S16384x200, .i32⟩
  | 1 => ⟨S16384x200, .i32⟩
  | 2 => ⟨S16384x200, .i32⟩
  | 3 => ⟨S16384x200, .i32⟩
  | 4 => ⟨S16384x200, .i32⟩
  | 5 => ⟨S16384x200, .i32⟩
  | 6 => ⟨S16384x200, .i32⟩
  | 7 => ⟨S_, .i32⟩
  | 8 => ⟨S16384x200, .i32⟩
  | 9 => ⟨S16384x200, .i32⟩
  | 10 => ⟨S16384x200, .i32⟩
  | 11 => ⟨S_, .i32⟩
  | 12 => ⟨S16384x200, .i32⟩
  | 13 => ⟨S16384x200, .i32⟩
  | 14 => ⟨S_, .i32⟩
  | 15 => ⟨S16384x200, .i32⟩
  | 16 => ⟨S16384x200, .i32⟩
  | 17 => ⟨S16384x200, .i32⟩
  | 18 => ⟨S16384x200, .i32⟩
  | 19 => ⟨S16384x200, .i32⟩
  | 20 => ⟨S_, .i32⟩
  | 21 => ⟨S16384x200, .i32⟩
  | 22 => ⟨S16384x200, .i32⟩
  | 23 => ⟨S_, .i32⟩
  | 24 => ⟨S16384x200, .i32⟩
  | 25 => ⟨S16384x200, .i32⟩
  | 26 => ⟨S16384x200, .i32⟩
  | 27 => ⟨S16384x200, .i32⟩
  | 28 => ⟨S16384x200, .i32⟩
  | 29 => ⟨S_, .i32⟩
  | 30 => ⟨S16384x200, .i32⟩
  | 31 => ⟨S16384x200, .i32⟩
  | 32 => ⟨S_, .i32⟩
  | 33 => ⟨S16384x200, .i32⟩
  | 34 => ⟨S16384x200, .i32⟩
  | 35 => ⟨S16384x200, .i32⟩
  | 36 => ⟨S16384x200, .i32⟩
  | 37 => ⟨S16384x200, .i32⟩
  | 38 => ⟨S_, .i32⟩
  | 39 => ⟨S16384x200, .i32⟩
  | 40 => ⟨S16384x200, .i32⟩
  | 41 => ⟨S_, .i32⟩
  | 42 => ⟨S16384x200, .i32⟩
  | 43 => ⟨S16384x200, .i32⟩
  | 44 => ⟨S16384x200, .i32⟩
  | 45 => ⟨S16384x200, .i32⟩
  | 46 => ⟨S16384x200, .i32⟩
  | 47 => ⟨S16384x200, .i32⟩
  | 48 => ⟨S16384x200, .i32⟩
  | 49 => ⟨S16384x200, .i32⟩
  | 50 => ⟨S_, .i32⟩
  | 51 => ⟨S16384x200, .i32⟩
  | 52 => ⟨S16384x200, .i32⟩
  | 53 => ⟨S16384x200, .i32⟩
  | 54 => ⟨S_, .i32⟩
  | 55 => ⟨S16384x200, .i32⟩
  | 56 => ⟨S16384x200, .i32⟩
  | 57 => ⟨S_, .i32⟩
  | 58 => ⟨S16384x200, .i32⟩
  | 59 => ⟨S16384x200, .i32⟩
  | 60 => ⟨S16384x200, .i32⟩
  | 61 => ⟨S16384x200, .i32⟩
  | 62 => ⟨S16384x200, .i32⟩
  | 63 => ⟨S_, .i32⟩
  | 64 => ⟨S16384x200, .i32⟩
  | 65 => ⟨S16384x200, .i32⟩
  | 66 => ⟨S_, .i32⟩
  | 67 => ⟨S16384x200, .i32⟩
  | 68 => ⟨S16384x200, .i32⟩
  | 69 => ⟨S16384x200, .i32⟩
  | 70 => ⟨S16384x200, .i32⟩
  | 71 => ⟨S16384x200, .i32⟩
  | 72 => ⟨S_, .i32⟩
  | 73 => ⟨S16384x200, .i32⟩
  | 74 => ⟨S16384x200, .i32⟩
  | 75 => ⟨S_, .i32⟩
  | 76 => ⟨S16384x200, .i32⟩
  | 77 => ⟨S16384x200, .i32⟩
  | 78 => ⟨S16384x200, .i32⟩
  | 79 => ⟨S16384x200, .i32⟩
  | 80 => ⟨S16384x200, .i32⟩
  | 81 => ⟨S_, .i32⟩
  | 82 => ⟨S16384x200, .i32⟩
  | 83 => ⟨S16384x200, .i32⟩
  | 84 => ⟨S_, .i32⟩
  | 85 => ⟨S16384x200, .i32⟩
  | 86 => ⟨S16384x200, .i32⟩
  | 87 => ⟨S16384x200, .i32⟩
  | 88 => ⟨S16384x200, .i32⟩
  | 89 => ⟨S16384x200, .i32⟩
  | 90 => ⟨S16384x200, .i32⟩
  | 91 => ⟨S16384x200, .i32⟩
  | 92 => ⟨S16384x200, .i32⟩
  | 93 => ⟨S_, .i32⟩
  | 94 => ⟨S16384x200, .i32⟩
  | 95 => ⟨S16384x200, .i32⟩
  | 96 => ⟨S16384x200, .i32⟩
  | 97 => ⟨S1x1, .i32⟩
  | 98 => ⟨S1x1, .i32⟩
  | 99 => ⟨S1x1, .i1⟩
  | 100 => ⟨S_, .i32⟩
  | 101 => ⟨S1x1, .i32⟩
  | 102 => ⟨S1x1, .i32⟩
  | 103 => ⟨S1x1, .i1⟩
  | 104 => ⟨S1x1, .i1⟩
  | 105 => ⟨S1x1, .i1⟩
  | 106 => ⟨S_, .i32⟩
  | 107 => ⟨S1x1, .i32⟩
  | 108 => ⟨S1x1, .i32⟩
  | 109 => ⟨S1x1, .i32⟩
  | 110 => ⟨S_, .i32⟩
  | 111 => ⟨S1x1, .i32⟩
  | 112 => ⟨S1x1, .i32⟩
  | 113 => ⟨S1x1, .i32⟩
  | 114 => ⟨S1x1, .i32⟩
  | 115 => ⟨S16384x200, .i32⟩
  | 116 => ⟨S16384x200, .i32⟩
  | 117 => ⟨S16384x200, .i32⟩
  | 118 => ⟨S16384x200, .i32⟩
  | 119 => ⟨S16384x200, .i32⟩
  | 120 => ⟨S16384x200, .i32⟩
  | 121 => ⟨S16384x200, .i32⟩
  | 122 => ⟨S16384x200, .i32⟩
  | 123 => ⟨S16384x200, .i32⟩
  | 124 => ⟨S16384x200, .i32⟩
  | 125 => ⟨S16384x200, .i32⟩
  | 126 => ⟨S16384x200, .i32⟩
  | 127 => ⟨S_, .f32⟩
  | _ => ⟨S16384, .i32⟩

abbrev hbmTy0_8 (i : Nat) : BufTy := match i % 128 with
  | 0 => ⟨S16384x200, .f32⟩
  | 1 => ⟨S16384x200, .f32⟩
  | 2 => ⟨S16384x200, .f32⟩
  | 3 => ⟨S16384x200, .f32⟩
  | _ => ⟨S16384, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v7 : Ref sig .tc := ⟨.hbm, 248, rfl⟩
abbrev main_c_3 : Ref sig .tc := ⟨.hbm, 249, rfl⟩
abbrev main_c_4 : Ref sig .tc := ⟨.hbm, 250, rfl⟩
abbrev main_call1_c : Ref sig .tc := ⟨.hbm, 251, rfl⟩
abbrev main_call1_c_0 : Ref sig .tc := ⟨.hbm, 252, rfl⟩
abbrev main_call1_c_1 : Ref sig .tc := ⟨.hbm, 253, rfl⟩
abbrev main_call1_call0_v0 : Ref sig .tc := ⟨.hbm, 254, rfl⟩
abbrev main_call1_v0 : Ref sig .tc := ⟨.hbm, 255, rfl⟩
abbrev main_call1_v1 : Ref sig .tc := ⟨.hbm, 256, rfl⟩
abbrev main_call1_c_2 : Ref sig .tc := ⟨.hbm, 257, rfl⟩
abbrev main_call1_c_3 : Ref sig .tc := ⟨.hbm, 258, rfl⟩
abbrev main_call1_call1_v0 : Ref sig .tc := ⟨.hbm, 259, rfl⟩
abbrev main_call1_v2 : Ref sig .tc := ⟨.hbm, 260, rfl⟩
abbrev main_call1_v3 : Ref sig .tc := ⟨.hbm, 261, rfl⟩
abbrev main_call1_c_4 : Ref sig .tc := ⟨.hbm, 262, rfl⟩
abbrev main_call1_c_5 : Ref sig .tc := ⟨.hbm, 263, rfl⟩
abbrev main_call1_call2_v0 : Ref sig .tc := ⟨.hbm, 264, rfl⟩
abbrev main_call1_v4 : Ref sig .tc := ⟨.hbm, 265, rfl⟩
abbrev main_call1_v5 : Ref sig .tc := ⟨.hbm, 266, rfl⟩
abbrev main_call1_v6 : Ref sig .tc := ⟨.hbm, 267, rfl⟩
abbrev main_call1_v7 : Ref sig .tc := ⟨.hbm, 268, rfl⟩
abbrev main_call1_call3_v0 : Ref sig .tc := ⟨.hbm, 269, rfl⟩
abbrev main_call1_call3_v1 : Ref sig .tc := ⟨.hbm, 270, rfl⟩
abbrev main_call1_call3_v2 : Ref sig .tc := ⟨.hbm, 271, rfl⟩
abbrev main_call1_call3_v3 : Ref sig .tc := ⟨.hbm, 272, rfl⟩
abbrev main_call1_call3_v4 : Ref sig .tc := ⟨.hbm, 273, rfl⟩
abbrev main_call1_call3_c : Ref sig .tc := ⟨.hbm, 274, rfl⟩
abbrev main_call1_call3_v5 : Ref sig .tc := ⟨.hbm, 275, rfl⟩
abbrev main_call1_call3_v6 : Ref sig .tc := ⟨.hbm, 276, rfl⟩
abbrev main_call1_call3_c_0 : Ref sig .tc := ⟨.hbm, 277, rfl⟩
abbrev main_call1_call3_v7 : Ref sig .tc := ⟨.hbm, 278, rfl⟩
abbrev main_call1_call3_v8 : Ref sig .tc := ⟨.hbm, 279, rfl⟩
abbrev main_call1_call3_v9 : Ref sig .tc := ⟨.hbm, 280, rfl⟩
abbrev main_call1_call3_v10 : Ref sig .tc := ⟨.hbm, 281, rfl⟩
abbrev main_call1_call3_call0_v0 : Ref sig .tc := ⟨.hbm, 282, rfl⟩
abbrev main_call1_call3_call0_c : Ref sig .tc := ⟨.hbm, 283, rfl⟩
abbrev main_call1_call3_call0_v1 : Ref sig .tc := ⟨.hbm, 284, rfl⟩
abbrev main_call1_call3_call0_v2 : Ref sig .tc := ⟨.hbm, 285, rfl⟩
abbrev main_call1_call3_call0_v3 : Ref sig .tc := ⟨.hbm, 286, rfl⟩
abbrev main_call1_call3_call0_v4 : Ref sig .tc := ⟨.hbm, 287, rfl⟩
abbrev main_call1_call3_call0_v5 : Ref sig .tc := ⟨.hbm, 288, rfl⟩
abbrev main_call1_call3_call0_v6 : Ref sig .tc := ⟨.hbm, 289, rfl⟩
abbrev main_call1_call3_call0_c_0 : Ref sig .tc := ⟨.hbm, 290, rfl⟩
abbrev main_call1_call3_call0_v7 : Ref sig .tc := ⟨.hbm, 291, rfl⟩
abbrev main_call1_call3_call0_v8 : Ref sig .tc := ⟨.hbm, 292, rfl⟩
abbrev main_call1_call3_call0_c_1 : Ref sig .tc := ⟨.hbm, 293, rfl⟩
abbrev main_call1_call3_call0_v9 : Ref sig .tc := ⟨.hbm, 294, rfl⟩
abbrev main_call1_call3_call0_v10 : Ref sig .tc := ⟨.hbm, 295, rfl⟩
abbrev main_call1_call3_call0_v11 : Ref sig .tc := ⟨.hbm, 296, rfl⟩
abbrev main_call1_call3_call0_v12 : Ref sig .tc := ⟨.hbm, 297, rfl⟩
abbrev main_call1_call3_call0_v13 : Ref sig .tc := ⟨.hbm, 298, rfl⟩
abbrev main_call1_call3_call0_c_2 : Ref sig .tc := ⟨.hbm, 299, rfl⟩
abbrev main_call1_call3_call0_v14 : Ref sig .tc := ⟨.hbm, 300, rfl⟩
abbrev main_call1_call3_call0_v15 : Ref sig .tc := ⟨.hbm, 301, rfl⟩
abbrev main_call1_call3_call0_c_3 : Ref sig .tc := ⟨.hbm, 302, rfl⟩
abbrev main_call1_call3_call0_v16 : Ref sig .tc := ⟨.hbm, 303, rfl⟩
abbrev main_call1_call3_call0_v17 : Ref sig .tc := ⟨.hbm, 304, rfl⟩
abbrev main_call1_call3_call0_v18 : Ref sig .tc := ⟨.hbm, 305, rfl⟩
abbrev main_call1_call3_call0_v19 : Ref sig .tc := ⟨.hbm, 306, rfl⟩
abbrev main_call1_call3_call0_v20 : Ref sig .tc := ⟨.hbm, 307, rfl⟩
abbrev main_call1_call3_call0_c_4 : Ref sig .tc := ⟨.hbm, 308, rfl⟩
abbrev main_call1_call3_call0_v21 : Ref sig .tc := ⟨.hbm, 309, rfl⟩
abbrev main_call1_call3_call0_v22 : Ref sig .tc := ⟨.hbm, 310, rfl⟩
abbrev main_call1_call3_call0_c_5 : Ref sig .tc := ⟨.hbm, 311, rfl⟩
abbrev main_call1_call3_call0_v23 : Ref sig .tc := ⟨.hbm, 312, rfl⟩
abbrev main_call1_call3_call0_v24 : Ref sig .tc := ⟨.hbm, 313, rfl⟩
abbrev main_call1_call3_call0_v25 : Ref sig .tc := ⟨.hbm, 314, rfl⟩
abbrev main_call1_call3_call0_v26 : Ref sig .tc := ⟨.hbm, 315, rfl⟩
abbrev main_call1_call3_call0_v27 : Ref sig .tc := ⟨.hbm, 316, rfl⟩
abbrev main_call1_call3_call0_c_6 : Ref sig .tc := ⟨.hbm, 317, rfl⟩
abbrev main_call1_call3_call0_v28 : Ref sig .tc := ⟨.hbm, 318, rfl⟩
abbrev main_call1_call3_call0_v29 : Ref sig .tc := ⟨.hbm, 319, rfl⟩
abbrev main_call1_call3_call0_c_7 : Ref sig .tc := ⟨.hbm, 320, rfl⟩
abbrev main_call1_call3_call0_v30 : Ref sig .tc := ⟨.hbm, 321, rfl⟩
abbrev main_call1_call3_call0_v31 : Ref sig .tc := ⟨.hbm, 322, rfl⟩
abbrev main_call1_call3_call0_v32 : Ref sig .tc := ⟨.hbm, 323, rfl⟩
abbrev main_call1_call3_call0_v33 : Ref sig .tc := ⟨.hbm, 324, rfl⟩
abbrev main_call1_call3_call0_v34 : Ref sig .tc := ⟨.hbm, 325, rfl⟩
abbrev main_call1_call3_call0_v35 : Ref sig .tc := ⟨.hbm, 326, rfl⟩
abbrev main_call1_call3_call0_v36 : Ref sig .tc := ⟨.hbm, 327, rfl⟩
abbrev main_call1_call3_call0_v37 : Ref sig .tc := ⟨.hbm, 328, rfl⟩
abbrev main_call1_call3_call0_c_8 : Ref sig .tc := ⟨.hbm, 329, rfl⟩
abbrev main_call1_call3_call0_v38 : Ref sig .tc := ⟨.hbm, 330, rfl⟩
abbrev main_call1_call3_call0_v39 : Ref sig .tc := ⟨.hbm, 331, rfl⟩
abbrev main_call1_call3_call0_v40 : Ref sig .tc := ⟨.hbm, 332, rfl⟩
abbrev main_call1_call3_call0_c_9 : Ref sig .tc := ⟨.hbm, 333, rfl⟩
abbrev main_call1_call3_call0_v41 : Ref sig .tc := ⟨.hbm, 334, rfl⟩
abbrev main_call1_call3_call0_v42 : Ref sig .tc := ⟨.hbm, 335, rfl⟩
abbrev main_call1_call3_call0_c_10 : Ref sig .tc := ⟨.hbm, 336, rfl⟩
abbrev main_call1_call3_call0_v43 : Ref sig .tc := ⟨.hbm, 337, rfl⟩
abbrev main_call1_call3_call0_v44 : Ref sig .tc := ⟨.hbm, 338, rfl⟩
abbrev main_call1_call3_call0_v45 : Ref sig .tc := ⟨.hbm, 339, rfl⟩
abbrev main_call1_call3_call0_v46 : Ref sig .tc := ⟨.hbm, 340, rfl⟩
abbrev main_call1_call3_call0_v47 : Ref sig .tc := ⟨.hbm, 341, rfl⟩
abbrev main_call1_call3_call0_c_11 : Ref sig .tc := ⟨.hbm, 342, rfl⟩
abbrev main_call1_call3_call0_v48 : Ref sig .tc := ⟨.hbm, 343, rfl⟩
abbrev main_call1_call3_call0_v49 : Ref sig .tc := ⟨.hbm, 344, rfl⟩
abbrev main_call1_call3_call0_c_12 : Ref sig .tc := ⟨.hbm, 345, rfl⟩
abbrev main_call1_call3_call0_v50 : Ref sig .tc := ⟨.hbm, 346, rfl⟩
abbrev main_call1_call3_call0_v51 : Ref sig .tc := ⟨.hbm, 347, rfl⟩
abbrev main_call1_call3_call0_v52 : Ref sig .tc := ⟨.hbm, 348, rfl⟩
abbrev main_call1_call3_call0_v53 : Ref sig .tc := ⟨.hbm, 349, rfl⟩
abbrev main_call1_call3_call0_v54 : Ref sig .tc := ⟨.hbm, 350, rfl⟩
abbrev main_call1_call3_call0_c_13 : Ref sig .tc := ⟨.hbm, 351, rfl⟩
abbrev main_call1_call3_call0_v55 : Ref sig .tc := ⟨.hbm, 352, rfl⟩
abbrev main_call1_call3_call0_v56 : Ref sig .tc := ⟨.hbm, 353, rfl⟩
abbrev main_call1_call3_call0_c_14 : Ref sig .tc := ⟨.hbm, 354, rfl⟩
abbrev main_call1_call3_call0_v57 : Ref sig .tc := ⟨.hbm, 355, rfl⟩
abbrev main_call1_call3_call0_v58 : Ref sig .tc := ⟨.hbm, 356, rfl⟩
abbrev main_call1_call3_call0_v59 : Ref sig .tc := ⟨.hbm, 357, rfl⟩
abbrev main_call1_call3_call0_v60 : Ref sig .tc := ⟨.hbm, 358, rfl⟩
abbrev main_call1_call3_call0_v61 : Ref sig .tc := ⟨.hbm, 359, rfl⟩
abbrev main_call1_call3_call0_c_15 : Ref sig .tc := ⟨.hbm, 360, rfl⟩
abbrev main_call1_call3_call0_v62 : Ref sig .tc := ⟨.hbm, 361, rfl⟩
abbrev main_call1_call3_call0_v63 : Ref sig .tc := ⟨.hbm, 362, rfl⟩
abbrev main_call1_call3_call0_c_16 : Ref sig .tc := ⟨.hbm, 363, rfl⟩
abbrev main_call1_call3_call0_v64 : Ref sig .tc := ⟨.hbm, 364, rfl⟩
abbrev main_call1_call3_call0_v65 : Ref sig .tc := ⟨.hbm, 365, rfl⟩
abbrev main_call1_call3_call0_v66 : Ref sig .tc := ⟨.hbm, 366, rfl⟩
abbrev main_call1_call3_call0_v67 : Ref sig .tc := ⟨.hbm, 367, rfl⟩
abbrev main_call1_call3_call0_v68 : Ref sig .tc := ⟨.hbm, 368, rfl⟩
abbrev main_call1_call3_call0_v69 : Ref sig .tc := ⟨.hbm, 369, rfl⟩
abbrev main_call1_call3_call0_v70 : Ref sig .tc := ⟨.hbm, 370, rfl⟩
abbrev main_call1_call3_call0_v71 : Ref sig .tc := ⟨.hbm, 371, rfl⟩
abbrev main_call1_call3_call0_c_17 : Ref sig .tc := ⟨.hbm, 372, rfl⟩
abbrev main_call1_call3_call0_v72 : Ref sig .tc := ⟨.hbm, 373, rfl⟩
abbrev main_call1_call3_call0_v73 : Ref sig .tc := ⟨.hbm, 374, rfl⟩
abbrev main_call1_call3_call0_v74 : Ref sig .tc := ⟨.hbm, 375, rfl⟩
abbrev main_call1_call3_call0_c_18 : Ref sig .tc := ⟨.hbm, 376, rfl⟩
abbrev main_call1_call3_call0_v75 : Ref sig .tc := ⟨.hbm, 377, rfl⟩
abbrev main_call1_call3_call0_v76 : Ref sig .tc := ⟨.hbm, 378, rfl⟩
abbrev main_call1_call3_call0_c_19 : Ref sig .tc := ⟨.hbm, 379, rfl⟩
abbrev main_call1_call3_call0_v77 : Ref sig .tc := ⟨.hbm, 380, rfl⟩
abbrev main_call1_call3_call0_v78 : Ref sig .tc := ⟨.hbm, 381, rfl⟩
abbrev main_call1_call3_call0_v79 : Ref sig .tc := ⟨.hbm, 382, rfl⟩
abbrev main_call1_call3_call0_v80 : Ref sig .tc := ⟨.hbm, 383, rfl⟩
abbrev main_call1_call3_call0_v81 : Ref sig .tc := ⟨.hbm, 384, rfl⟩
abbrev main_call1_call3_call0_c_20 : Ref sig .tc := ⟨.hbm, 385, rfl⟩
abbrev main_call1_call3_call0_v82 : Ref sig .tc := ⟨.hbm, 386, rfl⟩
abbrev main_call1_call3_call0_v83 : Ref sig .tc := ⟨.hbm, 387, rfl⟩
abbrev main_call1_call3_call0_c_21 : Ref sig .tc := ⟨.hbm, 388, rfl⟩
abbrev main_call1_call3_call0_v84 : Ref sig .tc := ⟨.hbm, 389, rfl⟩
abbrev main_call1_call3_call0_v85 : Ref sig .tc := ⟨.hbm, 390, rfl⟩
abbrev main_call1_call3_call0_v86 : Ref sig .tc := ⟨.hbm, 391, rfl⟩
abbrev main_call1_call3_call0_v87 : Ref sig .tc := ⟨.hbm, 392, rfl⟩
abbrev main_call1_call3_call0_v88 : Ref sig .tc := ⟨.hbm, 393, rfl⟩
abbrev main_call1_call3_call0_c_22 : Ref sig .tc := ⟨.hbm, 394, rfl⟩
abbrev main_call1_call3_call0_v89 : Ref sig .tc := ⟨.hbm, 395, rfl⟩
abbrev main_call1_call3_call0_v90 : Ref sig .tc := ⟨.hbm, 396, rfl⟩
abbrev main_call1_call3_call0_c_23 : Ref sig .tc := ⟨.hbm, 397, rfl⟩
abbrev main_call1_call3_call0_v91 : Ref sig .tc := ⟨.hbm, 398, rfl⟩
abbrev main_call1_call3_call0_v92 : Ref sig .tc := ⟨.hbm, 399, rfl⟩
abbrev main_call1_call3_call0_v93 : Ref sig .tc := ⟨.hbm, 400, rfl⟩
abbrev main_call1_call3_call0_v94 : Ref sig .tc := ⟨.hbm, 401, rfl⟩
abbrev main_call1_call3_call0_v95 : Ref sig .tc := ⟨.hbm, 402, rfl⟩
abbrev main_call1_call3_call0_c_24 : Ref sig .tc := ⟨.hbm, 403, rfl⟩
abbrev main_call1_call3_call0_v96 : Ref sig .tc := ⟨.hbm, 404, rfl⟩
abbrev main_call1_call3_call0_v97 : Ref sig .tc := ⟨.hbm, 405, rfl⟩
abbrev main_call1_call3_call0_c_25 : Ref sig .tc := ⟨.hbm, 406, rfl⟩
abbrev main_call1_call3_call0_v98 : Ref sig .tc := ⟨.hbm, 407, rfl⟩
abbrev main_call1_call3_call0_v99 : Ref sig .tc := ⟨.hbm, 408, rfl⟩
abbrev main_call1_call3_call0_v100 : Ref sig .tc := ⟨.hbm, 409, rfl⟩
abbrev main_call1_call3_call0_v101 : Ref sig .tc := ⟨.hbm, 410, rfl⟩
abbrev main_call1_call3_call0_v102 : Ref sig .tc := ⟨.hbm, 411, rfl⟩
abbrev main_call1_call3_call0_v103 : Ref sig .tc := ⟨.hbm, 412, rfl⟩
abbrev main_call1_call3_call0_v104 : Ref sig .tc := ⟨.hbm, 413, rfl⟩
abbrev main_call1_call3_call0_v105 : Ref sig .tc := ⟨.hbm, 414, rfl⟩
abbrev main_call1_call3_call0_c_26 : Ref sig .tc := ⟨.hbm, 415, rfl⟩
abbrev main_call1_call3_call0_v106 : Ref sig .tc := ⟨.hbm, 416, rfl⟩
abbrev main_call1_call3_call0_v107 : Ref sig .tc := ⟨.hbm, 417, rfl⟩
abbrev main_call1_call3_call0_v108 : Ref sig .tc := ⟨.hbm, 418, rfl⟩
abbrev main_call1_call3_call0_c_27 : Ref sig .tc := ⟨.hbm, 419, rfl⟩
abbrev main_call1_call3_call0_v109 : Ref sig .tc := ⟨.hbm, 420, rfl⟩
abbrev main_call1_call3_call0_v110 : Ref sig .tc := ⟨.hbm, 421, rfl⟩
abbrev main_call1_call3_call0_c_28 : Ref sig .tc := ⟨.hbm, 422, rfl⟩
abbrev main_call1_call3_call0_v111 : Ref sig .tc := ⟨.hbm, 423, rfl⟩
abbrev main_call1_call3_call0_v112 : Ref sig .tc := ⟨.hbm, 424, rfl⟩
abbrev main_call1_call3_call0_v113 : Ref sig .tc := ⟨.hbm, 425, rfl⟩
abbrev main_call1_call3_call0_v114 : Ref sig .tc := ⟨.hbm, 426, rfl⟩
abbrev main_call1_call3_call0_v115 : Ref sig .tc := ⟨.hbm, 427, rfl⟩
abbrev main_call1_call3_call0_c_29 : Ref sig .tc := ⟨.hbm, 428, rfl⟩
abbrev main_call1_call3_call0_v116 : Ref sig .tc := ⟨.hbm, 429, rfl⟩
abbrev main_call1_call3_call0_v117 : Ref sig .tc := ⟨.hbm, 430, rfl⟩
abbrev main_call1_call3_call0_c_30 : Ref sig .tc := ⟨.hbm, 431, rfl⟩
abbrev main_call1_call3_call0_v118 : Ref sig .tc := ⟨.hbm, 432, rfl⟩
abbrev main_call1_call3_call0_v119 : Ref sig .tc := ⟨.hbm, 433, rfl⟩
abbrev main_call1_call3_call0_v120 : Ref sig .tc := ⟨.hbm, 434, rfl⟩
abbrev main_call1_call3_call0_v121 : Ref sig .tc := ⟨.hbm, 435, rfl⟩
abbrev main_call1_call3_call0_v122 : Ref sig .tc := ⟨.hbm, 436, rfl⟩
abbrev main_call1_call3_call0_c_31 : Ref sig .tc := ⟨.hbm, 437, rfl⟩
abbrev main_call1_call3_call0_v123 : Ref sig .tc := ⟨.hbm, 438, rfl⟩
abbrev main_call1_call3_call0_v124 : Ref sig .tc := ⟨.hbm, 439, rfl⟩
abbrev main_call1_call3_call0_c_32 : Ref sig .tc := ⟨.hbm, 440, rfl⟩
abbrev main_call1_call3_call0_v125 : Ref sig .tc := ⟨.hbm, 441, rfl⟩
abbrev main_call1_call3_call0_v126 : Ref sig .tc := ⟨.hbm, 442, rfl⟩
abbrev main_call1_call3_call0_v127 : Ref sig .tc := ⟨.hbm, 443, rfl⟩
abbrev main_call1_call3_call0_v128 : Ref sig .tc := ⟨.hbm, 444, rfl⟩
abbrev main_call1_call3_call0_v129 : Ref sig .tc := ⟨.hbm, 445, rfl⟩
abbrev main_call1_call3_call0_c_33 : Ref sig .tc := ⟨.hbm, 446, rfl⟩
abbrev main_call1_call3_call0_v130 : Ref sig .tc := ⟨.hbm, 447, rfl⟩
abbrev main_call1_call3_call0_v131 : Ref sig .tc := ⟨.hbm, 448, rfl⟩
abbrev main_call1_call3_call0_c_34 : Ref sig .tc := ⟨.hbm, 449, rfl⟩
abbrev main_call1_call3_call0_v132 : Ref sig .tc := ⟨.hbm, 450, rfl⟩
abbrev main_call1_call3_call0_v133 : Ref sig .tc := ⟨.hbm, 451, rfl⟩
abbrev main_call1_call3_call0_v134 : Ref sig .tc := ⟨.hbm, 452, rfl⟩
abbrev main_call1_call3_call0_v135 : Ref sig .tc := ⟨.hbm, 453, rfl⟩
abbrev main_call1_call3_call0_v136 : Ref sig .tc := ⟨.hbm, 454, rfl⟩
abbrev main_call1_call3_call0_v137 : Ref sig .tc := ⟨.hbm, 455, rfl⟩
abbrev main_call1_call3_call0_v138 : Ref sig .tc := ⟨.hbm, 456, rfl⟩
abbrev main_call1_call3_call0_v139 : Ref sig .tc := ⟨.hbm, 457, rfl⟩
abbrev main_call1_call3_call0_c_35 : Ref sig .tc := ⟨.hbm, 458, rfl⟩
abbrev main_call1_call3_call0_v140 : Ref sig .tc := ⟨.hbm, 459, rfl⟩
abbrev main_call1_call3_call0_v141 : Ref sig .tc := ⟨.hbm, 460, rfl⟩
abbrev main_call1_call3_call0_v142 : Ref sig .tc := ⟨.hbm, 461, rfl⟩
abbrev main_call1_call3_call0_c_36 : Ref sig .tc := ⟨.hbm, 462, rfl⟩
abbrev main_call1_call3_call0_v143 : Ref sig .tc := ⟨.hbm, 463, rfl⟩
abbrev main_call1_call3_call0_v144 : Ref sig .tc := ⟨.hbm, 464, rfl⟩
abbrev main_call1_call3_call0_c_37 : Ref sig .tc := ⟨.hbm, 465, rfl⟩
abbrev main_call1_call3_call0_v145 : Ref sig .tc := ⟨.hbm, 466, rfl⟩
abbrev main_call1_call3_call0_v146 : Ref sig .tc := ⟨.hbm, 467, rfl⟩
abbrev main_call1_call3_call0_v147 : Ref sig .tc := ⟨.hbm, 468, rfl⟩
abbrev main_call1_call3_call0_v148 : Ref sig .tc := ⟨.hbm, 469, rfl⟩
abbrev main_call1_call3_call0_v149 : Ref sig .tc := ⟨.hbm, 470, rfl⟩
abbrev main_call1_call3_call0_c_38 : Ref sig .tc := ⟨.hbm, 471, rfl⟩
abbrev main_call1_call3_call0_v150 : Ref sig .tc := ⟨.hbm, 472, rfl⟩
abbrev main_call1_call3_call0_v151 : Ref sig .tc := ⟨.hbm, 473, rfl⟩
abbrev main_call1_call3_call0_c_39 : Ref sig .tc := ⟨.hbm, 474, rfl⟩
abbrev main_call1_call3_call0_v152 : Ref sig .tc := ⟨.hbm, 475, rfl⟩
abbrev main_call1_call3_call0_v153 : Ref sig .tc := ⟨.hbm, 476, rfl⟩
abbrev main_call1_call3_call0_v154 : Ref sig .tc := ⟨.hbm, 477, rfl⟩
abbrev main_call1_call3_call0_v155 : Ref sig .tc := ⟨.hbm, 478, rfl⟩
abbrev main_call1_call3_call0_v156 : Ref sig .tc := ⟨.hbm, 479, rfl⟩
abbrev main_call1_call3_call0_c_40 : Ref sig .tc := ⟨.hbm, 480, rfl⟩
abbrev main_call1_call3_call0_v157 : Ref sig .tc := ⟨.hbm, 481, rfl⟩
abbrev main_call1_call3_call0_v158 : Ref sig .tc := ⟨.hbm, 482, rfl⟩
abbrev main_call1_call3_call0_c_41 : Ref sig .tc := ⟨.hbm, 483, rfl⟩
abbrev main_call1_call3_call0_v159 : Ref sig .tc := ⟨.hbm, 484, rfl⟩
abbrev main_call1_call3_call0_v160 : Ref sig .tc := ⟨.hbm, 485, rfl⟩
abbrev main_call1_call3_call0_v161 : Ref sig .tc := ⟨.hbm, 486, rfl⟩
abbrev main_call1_call3_call0_v162 : Ref sig .tc := ⟨.hbm, 487, rfl⟩
abbrev main_call1_call3_call0_v163 : Ref sig .tc := ⟨.hbm, 488, rfl⟩
abbrev main_call1_call3_call0_c_42 : Ref sig .tc := ⟨.hbm, 489, rfl⟩
abbrev main_call1_call3_call0_v164 : Ref sig .tc := ⟨.hbm, 490, rfl⟩
abbrev main_call1_call3_call0_v165 : Ref sig .tc := ⟨.hbm, 491, rfl⟩
abbrev main_call1_call3_call0_c_43 : Ref sig .tc := ⟨.hbm, 492, rfl⟩
abbrev main_call1_call3_call0_v166 : Ref sig .tc := ⟨.hbm, 493, rfl⟩
abbrev main_call1_call3_call0_v167 : Ref sig .tc := ⟨.hbm, 494, rfl⟩
abbrev main_call1_call3_call0_v168 : Ref sig .tc := ⟨.hbm, 495, rfl⟩
abbrev main_call1_call3_call0_v169 : Ref sig .tc := ⟨.hbm, 496, rfl⟩
abbrev main_call1_call3_call0_v170 : Ref sig .tc := ⟨.hbm, 497, rfl⟩
abbrev main_call1_call3_v11_0 : Ref sig .tc := ⟨.hbm, 498, rfl⟩
abbrev main_call1_call3_call0_v172 : Ref sig .tc := ⟨.hbm, 499, rfl⟩
abbrev main_call1_call3_call0_v173 : Ref sig .tc := ⟨.hbm, 500, rfl⟩
abbrev main_call1_call3_call0_c_44 : Ref sig .tc := ⟨.hbm, 501, rfl⟩
abbrev main_call1_call3_call0_v174 : Ref sig .tc := ⟨.hbm, 502, rfl⟩
abbrev main_call1_call3_v11_1 : Ref sig .tc := ⟨.hbm, 503, rfl⟩
abbrev main_call1_call3_v12 : Ref sig .tc := ⟨.hbm, 504, rfl⟩
abbrev main_call1_call3_v13 : Ref sig .tc := ⟨.hbm, 505, rfl⟩
abbrev main_call1_v8 : Ref sig .tc := ⟨.hbm, 506, rfl⟩
abbrev main_call1_v9 : Ref sig .tc := ⟨.hbm, 507, rfl⟩
abbrev main_call1_v10 : Ref sig .tc := ⟨.hbm, 508, rfl⟩
abbrev main_call1_v11 : Ref sig .tc := ⟨.hbm, 509, rfl⟩
abbrev main_call1_v12 : Ref sig .tc := ⟨.hbm, 510, rfl⟩
abbrev main_call1_v13 : Ref sig .tc := ⟨.hbm, 511, rfl⟩
abbrev main_call1_v14 : Ref sig .tc := ⟨.hbm, 512, rfl⟩
abbrev main_call1_v15 : Ref sig .tc := ⟨.hbm, 513, rfl⟩
abbrev main_call1_v16 : Ref sig .tc := ⟨.hbm, 514, rfl⟩
abbrev main_call1_v17 : Ref sig .tc := ⟨.hbm, 515, rfl⟩
abbrev main_call1_v18 : Ref sig .tc := ⟨.hbm, 516, rfl⟩
abbrev main_call1_c_6 : Ref sig .tc := ⟨.hbm, 517, rfl⟩
abbrev main_call1_v19 : Ref sig .tc := ⟨.hbm, 518, rfl⟩
abbrev main_call1_v20 : Ref sig .tc := ⟨.hbm, 519, rfl⟩
abbrev main_call1_c_7 : Ref sig .tc := ⟨.hbm, 520, rfl⟩
abbrev main_call1_v21 : Ref sig .tc := ⟨.hbm, 521, rfl⟩
abbrev main_call1_v22 : Ref sig .tc := ⟨.hbm, 522, rfl⟩
abbrev main_call1_v23 : Ref sig .tc := ⟨.hbm, 523, rfl⟩
abbrev main_call1_c_8 : Ref sig .tc := ⟨.hbm, 524, rfl⟩
abbrev main_call1_v24 : Ref sig .tc := ⟨.hbm, 525, rfl⟩
abbrev main_call1_v25 : Ref sig .tc := ⟨.hbm, 526, rfl⟩
abbrev main_call1_v26 : Ref sig .tc := ⟨.hbm, 527, rfl⟩
abbrev main_call1_v27 : Ref sig .tc := ⟨.hbm, 528, rfl⟩
abbrev main_call1_call4_v0 : Ref sig .tc := ⟨.hbm, 529, rfl⟩
abbrev main_call1_call4_c : Ref sig .tc := ⟨.hbm, 530, rfl⟩
abbrev main_call1_call4_v1 : Ref sig .tc := ⟨.hbm, 531, rfl⟩
abbrev main_call1_call4_v2 : Ref sig .tc := ⟨.hbm, 532, rfl⟩
abbrev main_call1_call4_v3 : Ref sig .tc := ⟨.hbm, 533, rfl⟩
abbrev main_call1_call4_v4 : Ref sig .tc := ⟨.hbm, 534, rfl⟩
abbrev main_call1_call4_v5 : Ref sig .tc := ⟨.hbm, 535, rfl⟩
abbrev main_call1_call4_v6 : Ref sig .tc := ⟨.hbm, 536, rfl⟩
abbrev main_call1_call4_c_0 : Ref sig .tc := ⟨.hbm, 537, rfl⟩
abbrev main_call1_call4_v7 : Ref sig .tc := ⟨.hbm, 538, rfl⟩
abbrev main_call1_call4_v8 : Ref sig .tc := ⟨.hbm, 539, rfl⟩
abbrev main_call1_call4_c_1 : Ref sig .tc := ⟨.hbm, 540, rfl⟩
abbrev main_call1_call4_v9 : Ref sig .tc := ⟨.hbm, 541, rfl⟩
abbrev main_call1_call4_v10 : Ref sig .tc := ⟨.hbm, 542, rfl⟩
abbrev main_call1_call4_v11 : Ref sig .tc := ⟨.hbm, 543, rfl⟩
abbrev main_call1_call4_v12 : Ref sig .tc := ⟨.hbm, 544, rfl⟩
abbrev main_call1_call4_v13 : Ref sig .tc := ⟨.hbm, 545, rfl⟩
abbrev main_call1_call4_c_2 : Ref sig .tc := ⟨.hbm, 546, rfl⟩
abbrev main_call1_call4_v14 : Ref sig .tc := ⟨.hbm, 547, rfl⟩
abbrev main_call1_call4_v15 : Ref sig .tc := ⟨.hbm, 548, rfl⟩
abbrev main_call1_call4_c_3 : Ref sig .tc := ⟨.hbm, 549, rfl⟩
abbrev main_call1_call4_v16 : Ref sig .tc := ⟨.hbm, 550, rfl⟩
abbrev main_call1_call4_v17 : Ref sig .tc := ⟨.hbm, 551, rfl⟩
abbrev main_call1_call4_v18 : Ref sig .tc := ⟨.hbm, 552, rfl⟩
abbrev main_call1_call4_v19 : Ref sig .tc := ⟨.hbm, 553, rfl⟩
abbrev main_call1_call4_v20 : Ref sig .tc := ⟨.hbm, 554, rfl⟩
abbrev main_call1_call4_c_4 : Ref sig .tc := ⟨.hbm, 555, rfl⟩
abbrev main_call1_call4_v21 : Ref sig .tc := ⟨.hbm, 556, rfl⟩
abbrev main_call1_call4_v22 : Ref sig .tc := ⟨.hbm, 557, rfl⟩
abbrev main_call1_call4_c_5 : Ref sig .tc := ⟨.hbm, 558, rfl⟩
abbrev main_call1_call4_v23 : Ref sig .tc := ⟨.hbm, 559, rfl⟩
abbrev main_call1_call4_v24 : Ref sig .tc := ⟨.hbm, 560, rfl⟩
abbrev main_call1_call4_v25 : Ref sig .tc := ⟨.hbm, 561, rfl⟩
abbrev main_call1_call4_v26 : Ref sig .tc := ⟨.hbm, 562, rfl⟩
abbrev main_call1_call4_v27 : Ref sig .tc := ⟨.hbm, 563, rfl⟩
abbrev main_call1_call4_c_6 : Ref sig .tc := ⟨.hbm, 564, rfl⟩
abbrev main_call1_call4_v28 : Ref sig .tc := ⟨.hbm, 565, rfl⟩
abbrev main_call1_call4_v29 : Ref sig .tc := ⟨.hbm, 566, rfl⟩
abbrev main_call1_call4_c_7 : Ref sig .tc := ⟨.hbm, 567, rfl⟩
abbrev main_call1_call4_v30 : Ref sig .tc := ⟨.hbm, 568, rfl⟩
abbrev main_call1_call4_v31 : Ref sig .tc := ⟨.hbm, 569, rfl⟩
abbrev main_call1_call4_v32 : Ref sig .tc := ⟨.hbm, 570, rfl⟩
abbrev main_call1_call4_v33 : Ref sig .tc := ⟨.hbm, 571, rfl⟩
abbrev main_call1_call4_v34 : Ref sig .tc := ⟨.hbm, 572, rfl⟩
abbrev main_call1_call4_v35 : Ref sig .tc := ⟨.hbm, 573, rfl⟩
abbrev main_call1_call4_v36 : Ref sig .tc := ⟨.hbm, 574, rfl⟩
abbrev main_call1_call4_v37 : Ref sig .tc := ⟨.hbm, 575, rfl⟩
abbrev main_call1_call4_c_8 : Ref sig .tc := ⟨.hbm, 576, rfl⟩
abbrev main_call1_call4_v38 : Ref sig .tc := ⟨.hbm, 577, rfl⟩
abbrev main_call1_call4_v39 : Ref sig .tc := ⟨.hbm, 578, rfl⟩
abbrev main_call1_call4_v40 : Ref sig .tc := ⟨.hbm, 579, rfl⟩
abbrev main_call1_call4_c_9 : Ref sig .tc := ⟨.hbm, 580, rfl⟩
abbrev main_call1_call4_v41 : Ref sig .tc := ⟨.hbm, 581, rfl⟩
abbrev main_call1_call4_v42 : Ref sig .tc := ⟨.hbm, 582, rfl⟩
abbrev main_call1_call4_c_10 : Ref sig .tc := ⟨.hbm, 583, rfl⟩
abbrev main_call1_call4_v43 : Ref sig .tc := ⟨.hbm, 584, rfl⟩
abbrev main_call1_call4_v44 : Ref sig .tc := ⟨.hbm, 585, rfl⟩
abbrev main_call1_call4_v45 : Ref sig .tc := ⟨.hbm, 586, rfl⟩
abbrev main_call1_call4_v46 : Ref sig .tc := ⟨.hbm, 587, rfl⟩
abbrev main_call1_call4_v47 : Ref sig .tc := ⟨.hbm, 588, rfl⟩
abbrev main_call1_call4_c_11 : Ref sig .tc := ⟨.hbm, 589, rfl⟩
abbrev main_call1_call4_v48 : Ref sig .tc := ⟨.hbm, 590, rfl⟩
abbrev main_call1_call4_v49 : Ref sig .tc := ⟨.hbm, 591, rfl⟩
abbrev main_call1_call4_c_12 : Ref sig .tc := ⟨.hbm, 592, rfl⟩
abbrev main_call1_call4_v50 : Ref sig .tc := ⟨.hbm, 593, rfl⟩
abbrev main_call1_call4_v51 : Ref sig .tc := ⟨.hbm, 594, rfl⟩
abbrev main_call1_call4_v52 : Ref sig .tc := ⟨.hbm, 595, rfl⟩
abbrev main_call1_call4_v53 : Ref sig .tc := ⟨.hbm, 596, rfl⟩
abbrev main_call1_call4_v54 : Ref sig .tc := ⟨.hbm, 597, rfl⟩
abbrev main_call1_call4_c_13 : Ref sig .tc := ⟨.hbm, 598, rfl⟩
abbrev main_call1_call4_v55 : Ref sig .tc := ⟨.hbm, 599, rfl⟩
abbrev main_call1_call4_v56 : Ref sig .tc := ⟨.hbm, 600, rfl⟩
abbrev main_call1_call4_c_14 : Ref sig .tc := ⟨.hbm, 601, rfl⟩
abbrev main_call1_call4_v57 : Ref sig .tc := ⟨.hbm, 602, rfl⟩
abbrev main_call1_call4_v58 : Ref sig .tc := ⟨.hbm, 603, rfl⟩
abbrev main_call1_call4_v59 : Ref sig .tc := ⟨.hbm, 604, rfl⟩
abbrev main_call1_call4_v60 : Ref sig .tc := ⟨.hbm, 605, rfl⟩
abbrev main_call1_call4_v61 : Ref sig .tc := ⟨.hbm, 606, rfl⟩
abbrev main_call1_call4_c_15 : Ref sig .tc := ⟨.hbm, 607, rfl⟩
abbrev main_call1_call4_v62 : Ref sig .tc := ⟨.hbm, 608, rfl⟩
abbrev main_call1_call4_v63 : Ref sig .tc := ⟨.hbm, 609, rfl⟩
abbrev main_call1_call4_c_16 : Ref sig .tc := ⟨.hbm, 610, rfl⟩
abbrev main_call1_call4_v64 : Ref sig .tc := ⟨.hbm, 611, rfl⟩
abbrev main_call1_call4_v65 : Ref sig .tc := ⟨.hbm, 612, rfl⟩
abbrev main_call1_call4_v66 : Ref sig .tc := ⟨.hbm, 613, rfl⟩
abbrev main_call1_call4_v67 : Ref sig .tc := ⟨.hbm, 614, rfl⟩
abbrev main_call1_call4_v68 : Ref sig .tc := ⟨.hbm, 615, rfl⟩
abbrev main_call1_call4_v69 : Ref sig .tc := ⟨.hbm, 616, rfl⟩
abbrev main_call1_call4_v70 : Ref sig .tc := ⟨.hbm, 617, rfl⟩
abbrev main_call1_call4_v71 : Ref sig .tc := ⟨.hbm, 618, rfl⟩
abbrev main_call1_call4_c_17 : Ref sig .tc := ⟨.hbm, 619, rfl⟩
abbrev main_call1_call4_v72 : Ref sig .tc := ⟨.hbm, 620, rfl⟩
abbrev main_call1_call4_v73 : Ref sig .tc := ⟨.hbm, 621, rfl⟩
abbrev main_call1_call4_v74 : Ref sig .tc := ⟨.hbm, 622, rfl⟩
abbrev main_call1_call4_c_18 : Ref sig .tc := ⟨.hbm, 623, rfl⟩
abbrev main_call1_call4_v75 : Ref sig .tc := ⟨.hbm, 624, rfl⟩
abbrev main_call1_call4_v76 : Ref sig .tc := ⟨.hbm, 625, rfl⟩
abbrev main_call1_call4_c_19 : Ref sig .tc := ⟨.hbm, 626, rfl⟩
abbrev main_call1_call4_v77 : Ref sig .tc := ⟨.hbm, 627, rfl⟩
abbrev main_call1_call4_v78 : Ref sig .tc := ⟨.hbm, 628, rfl⟩
abbrev main_call1_call4_v79 : Ref sig .tc := ⟨.hbm, 629, rfl⟩
abbrev main_call1_call4_v80 : Ref sig .tc := ⟨.hbm, 630, rfl⟩
abbrev main_call1_call4_v81 : Ref sig .tc := ⟨.hbm, 631, rfl⟩
abbrev main_call1_call4_c_20 : Ref sig .tc := ⟨.hbm, 632, rfl⟩
abbrev main_call1_call4_v82 : Ref sig .tc := ⟨.hbm, 633, rfl⟩
abbrev main_call1_call4_v83 : Ref sig .tc := ⟨.hbm, 634, rfl⟩
abbrev main_call1_call4_c_21 : Ref sig .tc := ⟨.hbm, 635, rfl⟩
abbrev main_call1_call4_v84 : Ref sig .tc := ⟨.hbm, 636, rfl⟩
abbrev main_call1_call4_v85 : Ref sig .tc := ⟨.hbm, 637, rfl⟩
abbrev main_call1_call4_v86 : Ref sig .tc := ⟨.hbm, 638, rfl⟩
abbrev main_call1_call4_v87 : Ref sig .tc := ⟨.hbm, 639, rfl⟩
abbrev main_call1_call4_v88 : Ref sig .tc := ⟨.hbm, 640, rfl⟩
abbrev main_call1_call4_c_22 : Ref sig .tc := ⟨.hbm, 641, rfl⟩
abbrev main_call1_call4_v89 : Ref sig .tc := ⟨.hbm, 642, rfl⟩
abbrev main_call1_call4_v90 : Ref sig .tc := ⟨.hbm, 643, rfl⟩
abbrev main_call1_call4_c_23 : Ref sig .tc := ⟨.hbm, 644, rfl⟩
abbrev main_call1_call4_v91 : Ref sig .tc := ⟨.hbm, 645, rfl⟩
abbrev main_call1_call4_v92 : Ref sig .tc := ⟨.hbm, 646, rfl⟩
abbrev main_call1_call4_v93 : Ref sig .tc := ⟨.hbm, 647, rfl⟩
abbrev main_call1_call4_v94 : Ref sig .tc := ⟨.hbm, 648, rfl⟩
abbrev main_call1_call4_v95 : Ref sig .tc := ⟨.hbm, 649, rfl⟩
abbrev main_call1_call4_c_24 : Ref sig .tc := ⟨.hbm, 650, rfl⟩
abbrev main_call1_call4_v96 : Ref sig .tc := ⟨.hbm, 651, rfl⟩
abbrev main_call1_call4_v97 : Ref sig .tc := ⟨.hbm, 652, rfl⟩
abbrev main_call1_call4_c_25 : Ref sig .tc := ⟨.hbm, 653, rfl⟩
abbrev main_call1_call4_v98 : Ref sig .tc := ⟨.hbm, 654, rfl⟩
abbrev main_call1_call4_v99 : Ref sig .tc := ⟨.hbm, 655, rfl⟩
abbrev main_call1_call4_v100 : Ref sig .tc := ⟨.hbm, 656, rfl⟩
abbrev main_call1_call4_v101 : Ref sig .tc := ⟨.hbm, 657, rfl⟩
abbrev main_call1_call4_v102 : Ref sig .tc := ⟨.hbm, 658, rfl⟩
abbrev main_call1_call4_v103 : Ref sig .tc := ⟨.hbm, 659, rfl⟩
abbrev main_call1_call4_v104 : Ref sig .tc := ⟨.hbm, 660, rfl⟩
abbrev main_call1_call4_v105 : Ref sig .tc := ⟨.hbm, 661, rfl⟩
abbrev main_call1_call4_c_26 : Ref sig .tc := ⟨.hbm, 662, rfl⟩
abbrev main_call1_call4_v106 : Ref sig .tc := ⟨.hbm, 663, rfl⟩
abbrev main_call1_call4_v107 : Ref sig .tc := ⟨.hbm, 664, rfl⟩
abbrev main_call1_call4_v108 : Ref sig .tc := ⟨.hbm, 665, rfl⟩
abbrev main_call1_call4_c_27 : Ref sig .tc := ⟨.hbm, 666, rfl⟩
abbrev main_call1_call4_v109 : Ref sig .tc := ⟨.hbm, 667, rfl⟩
abbrev main_call1_call4_v110 : Ref sig .tc := ⟨.hbm, 668, rfl⟩
abbrev main_call1_call4_c_28 : Ref sig .tc := ⟨.hbm, 669, rfl⟩
abbrev main_call1_call4_v111 : Ref sig .tc := ⟨.hbm, 670, rfl⟩
abbrev main_call1_call4_v112 : Ref sig .tc := ⟨.hbm, 671, rfl⟩
abbrev main_call1_call4_v113 : Ref sig .tc := ⟨.hbm, 672, rfl⟩
abbrev main_call1_call4_v114 : Ref sig .tc := ⟨.hbm, 673, rfl⟩
abbrev main_call1_call4_v115 : Ref sig .tc := ⟨.hbm, 674, rfl⟩
abbrev main_call1_call4_c_29 : Ref sig .tc := ⟨.hbm, 675, rfl⟩
abbrev main_call1_call4_v116 : Ref sig .tc := ⟨.hbm, 676, rfl⟩
abbrev main_call1_call4_v117 : Ref sig .tc := ⟨.hbm, 677, rfl⟩
abbrev main_call1_call4_c_30 : Ref sig .tc := ⟨.hbm, 678, rfl⟩
abbrev main_call1_call4_v118 : Ref sig .tc := ⟨.hbm, 679, rfl⟩
abbrev main_call1_call4_v119 : Ref sig .tc := ⟨.hbm, 680, rfl⟩
abbrev main_call1_call4_v120 : Ref sig .tc := ⟨.hbm, 681, rfl⟩
abbrev main_call1_call4_v121 : Ref sig .tc := ⟨.hbm, 682, rfl⟩
abbrev main_call1_call4_v122 : Ref sig .tc := ⟨.hbm, 683, rfl⟩
abbrev main_call1_call4_c_31 : Ref sig .tc := ⟨.hbm, 684, rfl⟩
abbrev main_call1_call4_v123 : Ref sig .tc := ⟨.hbm, 685, rfl⟩
abbrev main_call1_call4_v124 : Ref sig .tc := ⟨.hbm, 686, rfl⟩
abbrev main_call1_call4_c_32 : Ref sig .tc := ⟨.hbm, 687, rfl⟩
abbrev main_call1_call4_v125 : Ref sig .tc := ⟨.hbm, 688, rfl⟩
abbrev main_call1_call4_v126 : Ref sig .tc := ⟨.hbm, 689, rfl⟩
abbrev main_call1_call4_v127 : Ref sig .tc := ⟨.hbm, 690, rfl⟩
abbrev main_call1_call4_v128 : Ref sig .tc := ⟨.hbm, 691, rfl⟩
abbrev main_call1_call4_v129 : Ref sig .tc := ⟨.hbm, 692, rfl⟩
abbrev main_call1_call4_c_33 : Ref sig .tc := ⟨.hbm, 693, rfl⟩
abbrev main_call1_call4_v130 : Ref sig .tc := ⟨.hbm, 694, rfl⟩
abbrev main_call1_call4_v131 : Ref sig .tc := ⟨.hbm, 695, rfl⟩
abbrev main_call1_call4_c_34 : Ref sig .tc := ⟨.hbm, 696, rfl⟩
abbrev main_call1_call4_v132 : Ref sig .tc := ⟨.hbm, 697, rfl⟩
abbrev main_call1_call4_v133 : Ref sig .tc := ⟨.hbm, 698, rfl⟩
abbrev main_call1_call4_v134 : Ref sig .tc := ⟨.hbm, 699, rfl⟩
abbrev main_call1_call4_v135 : Ref sig .tc := ⟨.hbm, 700, rfl⟩
abbrev main_call1_call4_v136 : Ref sig .tc := ⟨.hbm, 701, rfl⟩
abbrev main_call1_call4_v137 : Ref sig .tc := ⟨.hbm, 702, rfl⟩
abbrev main_call1_call4_v138 : Ref sig .tc := ⟨.hbm, 703, rfl⟩
abbrev main_call1_call4_v139 : Ref sig .tc := ⟨.hbm, 704, rfl⟩
abbrev main_call1_call4_c_35 : Ref sig .tc := ⟨.hbm, 705, rfl⟩
abbrev main_call1_call4_v140 : Ref sig .tc := ⟨.hbm, 706, rfl⟩
abbrev main_call1_call4_v141 : Ref sig .tc := ⟨.hbm, 707, rfl⟩
abbrev main_call1_call4_v142 : Ref sig .tc := ⟨.hbm, 708, rfl⟩
abbrev main_call1_call4_c_36 : Ref sig .tc := ⟨.hbm, 709, rfl⟩
abbrev main_call1_call4_v143 : Ref sig .tc := ⟨.hbm, 710, rfl⟩
abbrev main_call1_call4_v144 : Ref sig .tc := ⟨.hbm, 711, rfl⟩
abbrev main_call1_call4_c_37 : Ref sig .tc := ⟨.hbm, 712, rfl⟩
abbrev main_call1_call4_v145 : Ref sig .tc := ⟨.hbm, 713, rfl⟩
abbrev main_call1_call4_v146 : Ref sig .tc := ⟨.hbm, 714, rfl⟩
abbrev main_call1_call4_v147 : Ref sig .tc := ⟨.hbm, 715, rfl⟩
abbrev main_call1_call4_v148 : Ref sig .tc := ⟨.hbm, 716, rfl⟩
abbrev main_call1_call4_v149 : Ref sig .tc := ⟨.hbm, 717, rfl⟩
abbrev main_call1_call4_c_38 : Ref sig .tc := ⟨.hbm, 718, rfl⟩
abbrev main_call1_call4_v150 : Ref sig .tc := ⟨.hbm, 719, rfl⟩
abbrev main_call1_call4_v151 : Ref sig .tc := ⟨.hbm, 720, rfl⟩
abbrev main_call1_call4_c_39 : Ref sig .tc := ⟨.hbm, 721, rfl⟩
abbrev main_call1_call4_v152 : Ref sig .tc := ⟨.hbm, 722, rfl⟩
abbrev main_call1_call4_v153 : Ref sig .tc := ⟨.hbm, 723, rfl⟩
abbrev main_call1_call4_v154 : Ref sig .tc := ⟨.hbm, 724, rfl⟩
abbrev main_call1_call4_v155 : Ref sig .tc := ⟨.hbm, 725, rfl⟩
abbrev main_call1_call4_v156 : Ref sig .tc := ⟨.hbm, 726, rfl⟩
abbrev main_call1_call4_c_40 : Ref sig .tc := ⟨.hbm, 727, rfl⟩
abbrev main_call1_call4_v157 : Ref sig .tc := ⟨.hbm, 728, rfl⟩
abbrev main_call1_call4_v158 : Ref sig .tc := ⟨.hbm, 729, rfl⟩
abbrev main_call1_call4_c_41 : Ref sig .tc := ⟨.hbm, 730, rfl⟩
abbrev main_call1_call4_v159 : Ref sig .tc := ⟨.hbm, 731, rfl⟩
abbrev main_call1_call4_v160 : Ref sig .tc := ⟨.hbm, 732, rfl⟩
abbrev main_call1_call4_v161 : Ref sig .tc := ⟨.hbm, 733, rfl⟩
abbrev main_call1_call4_v162 : Ref sig .tc := ⟨.hbm, 734, rfl⟩
abbrev main_call1_call4_v163 : Ref sig .tc := ⟨.hbm, 735, rfl⟩
abbrev main_call1_call4_c_42 : Ref sig .tc := ⟨.hbm, 736, rfl⟩
abbrev main_call1_call4_v164 : Ref sig .tc := ⟨.hbm, 737, rfl⟩
abbrev main_call1_call4_v165 : Ref sig .tc := ⟨.hbm, 738, rfl⟩
abbrev main_call1_call4_c_43 : Ref sig .tc := ⟨.hbm, 739, rfl⟩
abbrev main_call1_call4_v166 : Ref sig .tc := ⟨.hbm, 740, rfl⟩
abbrev main_call1_call4_v167 : Ref sig .tc := ⟨.hbm, 741, rfl⟩
abbrev main_call1_call4_v168 : Ref sig .tc := ⟨.hbm, 742, rfl⟩
abbrev main_call1_call4_v169 : Ref sig .tc := ⟨.hbm, 743, rfl⟩
abbrev main_call1_call4_v170 : Ref sig .tc := ⟨.hbm, 744, rfl⟩
abbrev main_call1_v28_0 : Ref sig .tc := ⟨.hbm, 745, rfl⟩
abbrev main_call1_call4_v172 : Ref sig .tc := ⟨.hbm, 746, rfl⟩
abbrev main_call1_call4_v173 : Ref sig .tc := ⟨.hbm, 747, rfl⟩
abbrev main_call1_call4_c_44 : Ref sig .tc := ⟨.hbm, 748, rfl⟩
abbrev main_call1_call4_v174 : Ref sig .tc := ⟨.hbm, 749, rfl⟩
abbrev main_call1_v28_1 : Ref sig .tc := ⟨.hbm, 750, rfl⟩
abbrev main_call1_v29 : Ref sig .tc := ⟨.hbm, 751, rfl⟩
abbrev main_call1_v30 : Ref sig .tc := ⟨.hbm, 752, rfl⟩
abbrev main_call1_v31 : Ref sig .tc := ⟨.hbm, 753, rfl⟩
abbrev main_call1_v32 : Ref sig .tc := ⟨.hbm, 754, rfl⟩
abbrev main_call1_v33 : Ref sig .tc := ⟨.hbm, 755, rfl⟩
abbrev main_call1_v34 : Ref sig .tc := ⟨.hbm, 756, rfl⟩
abbrev main_call1_v35 : Ref sig .tc := ⟨.hbm, 757, rfl⟩
abbrev main_call1_c_9 : Ref sig .tc := ⟨.hbm, 758, rfl⟩
abbrev main_call1_v36 : Ref sig .tc := ⟨.hbm, 759, rfl⟩
abbrev main_call1_v37 : Ref sig .tc := ⟨.hbm, 760, rfl⟩
abbrev main_call1_c_10 : Ref sig .tc := ⟨.hbm, 761, rfl⟩
abbrev main_call1_v38 : Ref sig .tc := ⟨.hbm, 762, rfl⟩
abbrev main_call1_v39 : Ref sig .tc := ⟨.hbm, 763, rfl⟩
abbrev main_call1_v40 : Ref sig .tc := ⟨.hbm, 764, rfl⟩
abbrev main_call1_c_11 : Ref sig .tc := ⟨.hbm, 765, rfl⟩
abbrev main_call1_v41 : Ref sig .tc := ⟨.hbm, 766, rfl⟩
abbrev main_call1_v42 : Ref sig .tc := ⟨.hbm, 767, rfl⟩
abbrev main_call1_v43 : Ref sig .tc := ⟨.hbm, 768, rfl⟩
abbrev main_call1_v44 : Ref sig .tc := ⟨.hbm, 769, rfl⟩
abbrev main_call1_call5_v0 : Ref sig .tc := ⟨.hbm, 770, rfl⟩
abbrev main_call1_call5_c : Ref sig .tc := ⟨.hbm, 771, rfl⟩
abbrev main_call1_call5_v1 : Ref sig .tc := ⟨.hbm, 772, rfl⟩
abbrev main_call1_call5_v2 : Ref sig .tc := ⟨.hbm, 773, rfl⟩
abbrev main_call1_call5_v3 : Ref sig .tc := ⟨.hbm, 774, rfl⟩
abbrev main_call1_call5_v4 : Ref sig .tc := ⟨.hbm, 775, rfl⟩
abbrev main_call1_call5_v5 : Ref sig .tc := ⟨.hbm, 776, rfl⟩
abbrev main_call1_call5_v6 : Ref sig .tc := ⟨.hbm, 777, rfl⟩
abbrev main_call1_call5_c_0 : Ref sig .tc := ⟨.hbm, 778, rfl⟩
abbrev main_call1_call5_v7 : Ref sig .tc := ⟨.hbm, 779, rfl⟩
abbrev main_call1_call5_v8 : Ref sig .tc := ⟨.hbm, 780, rfl⟩
abbrev main_call1_call5_c_1 : Ref sig .tc := ⟨.hbm, 781, rfl⟩
abbrev main_call1_call5_v9 : Ref sig .tc := ⟨.hbm, 782, rfl⟩
abbrev main_call1_call5_v10 : Ref sig .tc := ⟨.hbm, 783, rfl⟩
abbrev main_call1_call5_v11 : Ref sig .tc := ⟨.hbm, 784, rfl⟩
abbrev main_call1_call5_v12 : Ref sig .tc := ⟨.hbm, 785, rfl⟩
abbrev main_call1_call5_v13 : Ref sig .tc := ⟨.hbm, 786, rfl⟩
abbrev main_call1_call5_c_2 : Ref sig .tc := ⟨.hbm, 787, rfl⟩
abbrev main_call1_call5_v14 : Ref sig .tc := ⟨.hbm, 788, rfl⟩
abbrev main_call1_call5_v15 : Ref sig .tc := ⟨.hbm, 789, rfl⟩
abbrev main_call1_call5_c_3 : Ref sig .tc := ⟨.hbm, 790, rfl⟩
abbrev main_call1_call5_v16 : Ref sig .tc := ⟨.hbm, 791, rfl⟩
abbrev main_call1_call5_v17 : Ref sig .tc := ⟨.hbm, 792, rfl⟩
abbrev main_call1_call5_v18 : Ref sig .tc := ⟨.hbm, 793, rfl⟩
abbrev main_call1_call5_v19 : Ref sig .tc := ⟨.hbm, 794, rfl⟩
abbrev main_call1_call5_v20 : Ref sig .tc := ⟨.hbm, 795, rfl⟩
abbrev main_call1_call5_c_4 : Ref sig .tc := ⟨.hbm, 796, rfl⟩
abbrev main_call1_call5_v21 : Ref sig .tc := ⟨.hbm, 797, rfl⟩
abbrev main_call1_call5_v22 : Ref sig .tc := ⟨.hbm, 798, rfl⟩
abbrev main_call1_call5_c_5 : Ref sig .tc := ⟨.hbm, 799, rfl⟩
abbrev main_call1_call5_v23 : Ref sig .tc := ⟨.hbm, 800, rfl⟩
abbrev main_call1_call5_v24 : Ref sig .tc := ⟨.hbm, 801, rfl⟩
abbrev main_call1_call5_v25 : Ref sig .tc := ⟨.hbm, 802, rfl⟩
abbrev main_call1_call5_v26 : Ref sig .tc := ⟨.hbm, 803, rfl⟩
abbrev main_call1_call5_v27 : Ref sig .tc := ⟨.hbm, 804, rfl⟩
abbrev main_call1_call5_c_6 : Ref sig .tc := ⟨.hbm, 805, rfl⟩
abbrev main_call1_call5_v28 : Ref sig .tc := ⟨.hbm, 806, rfl⟩
abbrev main_call1_call5_v29 : Ref sig .tc := ⟨.hbm, 807, rfl⟩
abbrev main_call1_call5_c_7 : Ref sig .tc := ⟨.hbm, 808, rfl⟩
abbrev main_call1_call5_v30 : Ref sig .tc := ⟨.hbm, 809, rfl⟩
abbrev main_call1_call5_v31 : Ref sig .tc := ⟨.hbm, 810, rfl⟩
abbrev main_call1_call5_v32 : Ref sig .tc := ⟨.hbm, 811, rfl⟩
abbrev main_call1_call5_v33 : Ref sig .tc := ⟨.hbm, 812, rfl⟩
abbrev main_call1_call5_v34 : Ref sig .tc := ⟨.hbm, 813, rfl⟩
abbrev main_call1_call5_v35 : Ref sig .tc := ⟨.hbm, 814, rfl⟩
abbrev main_call1_call5_v36 : Ref sig .tc := ⟨.hbm, 815, rfl⟩
abbrev main_call1_call5_v37 : Ref sig .tc := ⟨.hbm, 816, rfl⟩
abbrev main_call1_call5_c_8 : Ref sig .tc := ⟨.hbm, 817, rfl⟩
abbrev main_call1_call5_v38 : Ref sig .tc := ⟨.hbm, 818, rfl⟩
abbrev main_call1_call5_v39 : Ref sig .tc := ⟨.hbm, 819, rfl⟩
abbrev main_call1_call5_v40 : Ref sig .tc := ⟨.hbm, 820, rfl⟩
abbrev main_call1_call5_c_9 : Ref sig .tc := ⟨.hbm, 821, rfl⟩
abbrev main_call1_call5_v41 : Ref sig .tc := ⟨.hbm, 822, rfl⟩
abbrev main_call1_call5_v42 : Ref sig .tc := ⟨.hbm, 823, rfl⟩
abbrev main_call1_call5_c_10 : Ref sig .tc := ⟨.hbm, 824, rfl⟩
abbrev main_call1_call5_v43 : Ref sig .tc := ⟨.hbm, 825, rfl⟩
abbrev main_call1_call5_v44 : Ref sig .tc := ⟨.hbm, 826, rfl⟩
abbrev main_call1_call5_v45 : Ref sig .tc := ⟨.hbm, 827, rfl⟩
abbrev main_call1_call5_v46 : Ref sig .tc := ⟨.hbm, 828, rfl⟩
abbrev main_call1_call5_v47 : Ref sig .tc := ⟨.hbm, 829, rfl⟩
abbrev main_call1_call5_c_11 : Ref sig .tc := ⟨.hbm, 830, rfl⟩
abbrev main_call1_call5_v48 : Ref sig .tc := ⟨.hbm, 831, rfl⟩
abbrev main_call1_call5_v49 : Ref sig .tc := ⟨.hbm, 832, rfl⟩
abbrev main_call1_call5_c_12 : Ref sig .tc := ⟨.hbm, 833, rfl⟩
abbrev main_call1_call5_v50 : Ref sig .tc := ⟨.hbm, 834, rfl⟩
abbrev main_call1_call5_v51 : Ref sig .tc := ⟨.hbm, 835, rfl⟩
abbrev main_call1_call5_v52 : Ref sig .tc := ⟨.hbm, 836, rfl⟩
abbrev main_call1_call5_v53 : Ref sig .tc := ⟨.hbm, 837, rfl⟩
abbrev main_call1_call5_v54 : Ref sig .tc := ⟨.hbm, 838, rfl⟩
abbrev main_call1_call5_c_13 : Ref sig .tc := ⟨.hbm, 839, rfl⟩
abbrev main_call1_call5_v55 : Ref sig .tc := ⟨.hbm, 840, rfl⟩
abbrev main_call1_call5_v56 : Ref sig .tc := ⟨.hbm, 841, rfl⟩
abbrev main_call1_call5_c_14 : Ref sig .tc := ⟨.hbm, 842, rfl⟩
abbrev main_call1_call5_v57 : Ref sig .tc := ⟨.hbm, 843, rfl⟩
abbrev main_call1_call5_v58 : Ref sig .tc := ⟨.hbm, 844, rfl⟩
abbrev main_call1_call5_v59 : Ref sig .tc := ⟨.hbm, 845, rfl⟩
abbrev main_call1_call5_v60 : Ref sig .tc := ⟨.hbm, 846, rfl⟩
abbrev main_call1_call5_v61 : Ref sig .tc := ⟨.hbm, 847, rfl⟩
abbrev main_call1_call5_c_15 : Ref sig .tc := ⟨.hbm, 848, rfl⟩
abbrev main_call1_call5_v62 : Ref sig .tc := ⟨.hbm, 849, rfl⟩
abbrev main_call1_call5_v63 : Ref sig .tc := ⟨.hbm, 850, rfl⟩
abbrev main_call1_call5_c_16 : Ref sig .tc := ⟨.hbm, 851, rfl⟩
abbrev main_call1_call5_v64 : Ref sig .tc := ⟨.hbm, 852, rfl⟩
abbrev main_call1_call5_v65 : Ref sig .tc := ⟨.hbm, 853, rfl⟩
abbrev main_call1_call5_v66 : Ref sig .tc := ⟨.hbm, 854, rfl⟩
abbrev main_call1_call5_v67 : Ref sig .tc := ⟨.hbm, 855, rfl⟩
abbrev main_call1_call5_v68 : Ref sig .tc := ⟨.hbm, 856, rfl⟩
abbrev main_call1_call5_v69 : Ref sig .tc := ⟨.hbm, 857, rfl⟩
abbrev main_call1_call5_v70 : Ref sig .tc := ⟨.hbm, 858, rfl⟩
abbrev main_call1_call5_v71 : Ref sig .tc := ⟨.hbm, 859, rfl⟩
abbrev main_call1_call5_c_17 : Ref sig .tc := ⟨.hbm, 860, rfl⟩
abbrev main_call1_call5_v72 : Ref sig .tc := ⟨.hbm, 861, rfl⟩
abbrev main_call1_call5_v73 : Ref sig .tc := ⟨.hbm, 862, rfl⟩
abbrev main_call1_call5_v74 : Ref sig .tc := ⟨.hbm, 863, rfl⟩
abbrev main_call1_call5_c_18 : Ref sig .tc := ⟨.hbm, 864, rfl⟩
abbrev main_call1_call5_v75 : Ref sig .tc := ⟨.hbm, 865, rfl⟩
abbrev main_call1_call5_v76 : Ref sig .tc := ⟨.hbm, 866, rfl⟩
abbrev main_call1_call5_c_19 : Ref sig .tc := ⟨.hbm, 867, rfl⟩
abbrev main_call1_call5_v77 : Ref sig .tc := ⟨.hbm, 868, rfl⟩
abbrev main_call1_call5_v78 : Ref sig .tc := ⟨.hbm, 869, rfl⟩
abbrev main_call1_call5_v79 : Ref sig .tc := ⟨.hbm, 870, rfl⟩
abbrev main_call1_call5_v80 : Ref sig .tc := ⟨.hbm, 871, rfl⟩
abbrev main_call1_call5_v81 : Ref sig .tc := ⟨.hbm, 872, rfl⟩
abbrev main_call1_call5_c_20 : Ref sig .tc := ⟨.hbm, 873, rfl⟩
abbrev main_call1_call5_v82 : Ref sig .tc := ⟨.hbm, 874, rfl⟩
abbrev main_call1_call5_v83 : Ref sig .tc := ⟨.hbm, 875, rfl⟩
abbrev main_call1_call5_c_21 : Ref sig .tc := ⟨.hbm, 876, rfl⟩
abbrev main_call1_call5_v84 : Ref sig .tc := ⟨.hbm, 877, rfl⟩
abbrev main_call1_call5_v85 : Ref sig .tc := ⟨.hbm, 878, rfl⟩
abbrev main_call1_call5_v86 : Ref sig .tc := ⟨.hbm, 879, rfl⟩
abbrev main_call1_call5_v87 : Ref sig .tc := ⟨.hbm, 880, rfl⟩
abbrev main_call1_call5_v88 : Ref sig .tc := ⟨.hbm, 881, rfl⟩
abbrev main_call1_call5_c_22 : Ref sig .tc := ⟨.hbm, 882, rfl⟩
abbrev main_call1_call5_v89 : Ref sig .tc := ⟨.hbm, 883, rfl⟩
abbrev main_call1_call5_v90 : Ref sig .tc := ⟨.hbm, 884, rfl⟩
abbrev main_call1_call5_c_23 : Ref sig .tc := ⟨.hbm, 885, rfl⟩
abbrev main_call1_call5_v91 : Ref sig .tc := ⟨.hbm, 886, rfl⟩
abbrev main_call1_call5_v92 : Ref sig .tc := ⟨.hbm, 887, rfl⟩
abbrev main_call1_call5_v93 : Ref sig .tc := ⟨.hbm, 888, rfl⟩
abbrev main_call1_call5_v94 : Ref sig .tc := ⟨.hbm, 889, rfl⟩
abbrev main_call1_call5_v95 : Ref sig .tc := ⟨.hbm, 890, rfl⟩
abbrev main_call1_call5_c_24 : Ref sig .tc := ⟨.hbm, 891, rfl⟩
abbrev main_call1_call5_v96 : Ref sig .tc := ⟨.hbm, 892, rfl⟩
abbrev main_call1_call5_v97 : Ref sig .tc := ⟨.hbm, 893, rfl⟩
abbrev main_call1_call5_c_25 : Ref sig .tc := ⟨.hbm, 894, rfl⟩
abbrev main_call1_call5_v98 : Ref sig .tc := ⟨.hbm, 895, rfl⟩
abbrev main_call1_call5_v99 : Ref sig .tc := ⟨.hbm, 896, rfl⟩
abbrev main_call1_call5_v100 : Ref sig .tc := ⟨.hbm, 897, rfl⟩
abbrev main_call1_call5_v101 : Ref sig .tc := ⟨.hbm, 898, rfl⟩
abbrev main_call1_call5_v102 : Ref sig .tc := ⟨.hbm, 899, rfl⟩
abbrev main_call1_call5_v103 : Ref sig .tc := ⟨.hbm, 900, rfl⟩
abbrev main_call1_call5_v104 : Ref sig .tc := ⟨.hbm, 901, rfl⟩
abbrev main_call1_call5_v105 : Ref sig .tc := ⟨.hbm, 902, rfl⟩
abbrev main_call1_call5_c_26 : Ref sig .tc := ⟨.hbm, 903, rfl⟩
abbrev main_call1_call5_v106 : Ref sig .tc := ⟨.hbm, 904, rfl⟩
abbrev main_call1_call5_v107 : Ref sig .tc := ⟨.hbm, 905, rfl⟩
abbrev main_call1_call5_v108 : Ref sig .tc := ⟨.hbm, 906, rfl⟩
abbrev main_call1_call5_c_27 : Ref sig .tc := ⟨.hbm, 907, rfl⟩
abbrev main_call1_call5_v109 : Ref sig .tc := ⟨.hbm, 908, rfl⟩
abbrev main_call1_call5_v110 : Ref sig .tc := ⟨.hbm, 909, rfl⟩
abbrev main_call1_call5_c_28 : Ref sig .tc := ⟨.hbm, 910, rfl⟩
abbrev main_call1_call5_v111 : Ref sig .tc := ⟨.hbm, 911, rfl⟩
abbrev main_call1_call5_v112 : Ref sig .tc := ⟨.hbm, 912, rfl⟩
abbrev main_call1_call5_v113 : Ref sig .tc := ⟨.hbm, 913, rfl⟩
abbrev main_call1_call5_v114 : Ref sig .tc := ⟨.hbm, 914, rfl⟩
abbrev main_call1_call5_v115 : Ref sig .tc := ⟨.hbm, 915, rfl⟩
abbrev main_call1_call5_c_29 : Ref sig .tc := ⟨.hbm, 916, rfl⟩
abbrev main_call1_call5_v116 : Ref sig .tc := ⟨.hbm, 917, rfl⟩
abbrev main_call1_call5_v117 : Ref sig .tc := ⟨.hbm, 918, rfl⟩
abbrev main_call1_call5_c_30 : Ref sig .tc := ⟨.hbm, 919, rfl⟩
abbrev main_call1_call5_v118 : Ref sig .tc := ⟨.hbm, 920, rfl⟩
abbrev main_call1_call5_v119 : Ref sig .tc := ⟨.hbm, 921, rfl⟩
abbrev main_call1_call5_v120 : Ref sig .tc := ⟨.hbm, 922, rfl⟩
abbrev main_call1_call5_v121 : Ref sig .tc := ⟨.hbm, 923, rfl⟩
abbrev main_call1_call5_v122 : Ref sig .tc := ⟨.hbm, 924, rfl⟩
abbrev main_call1_call5_c_31 : Ref sig .tc := ⟨.hbm, 925, rfl⟩
abbrev main_call1_call5_v123 : Ref sig .tc := ⟨.hbm, 926, rfl⟩
abbrev main_call1_call5_v124 : Ref sig .tc := ⟨.hbm, 927, rfl⟩
abbrev main_call1_call5_c_32 : Ref sig .tc := ⟨.hbm, 928, rfl⟩
abbrev main_call1_call5_v125 : Ref sig .tc := ⟨.hbm, 929, rfl⟩
abbrev main_call1_call5_v126 : Ref sig .tc := ⟨.hbm, 930, rfl⟩
abbrev main_call1_call5_v127 : Ref sig .tc := ⟨.hbm, 931, rfl⟩
abbrev main_call1_call5_v128 : Ref sig .tc := ⟨.hbm, 932, rfl⟩
abbrev main_call1_call5_v129 : Ref sig .tc := ⟨.hbm, 933, rfl⟩
abbrev main_call1_call5_c_33 : Ref sig .tc := ⟨.hbm, 934, rfl⟩
abbrev main_call1_call5_v130 : Ref sig .tc := ⟨.hbm, 935, rfl⟩
abbrev main_call1_call5_v131 : Ref sig .tc := ⟨.hbm, 936, rfl⟩
abbrev main_call1_call5_c_34 : Ref sig .tc := ⟨.hbm, 937, rfl⟩
abbrev main_call1_call5_v132 : Ref sig .tc := ⟨.hbm, 938, rfl⟩
abbrev main_call1_call5_v133 : Ref sig .tc := ⟨.hbm, 939, rfl⟩
abbrev main_call1_call5_v134 : Ref sig .tc := ⟨.hbm, 940, rfl⟩
abbrev main_call1_call5_v135 : Ref sig .tc := ⟨.hbm, 941, rfl⟩
abbrev main_call1_call5_v136 : Ref sig .tc := ⟨.hbm, 942, rfl⟩
abbrev main_call1_call5_v137 : Ref sig .tc := ⟨.hbm, 943, rfl⟩
abbrev main_call1_call5_v138 : Ref sig .tc := ⟨.hbm, 944, rfl⟩
abbrev main_call1_call5_v139 : Ref sig .tc := ⟨.hbm, 945, rfl⟩
abbrev main_call1_call5_c_35 : Ref sig .tc := ⟨.hbm, 946, rfl⟩
abbrev main_call1_call5_v140 : Ref sig .tc := ⟨.hbm, 947, rfl⟩
abbrev main_call1_call5_v141 : Ref sig .tc := ⟨.hbm, 948, rfl⟩
abbrev main_call1_call5_v142 : Ref sig .tc := ⟨.hbm, 949, rfl⟩
abbrev main_call1_call5_c_36 : Ref sig .tc := ⟨.hbm, 950, rfl⟩
abbrev main_call1_call5_v143 : Ref sig .tc := ⟨.hbm, 951, rfl⟩
abbrev main_call1_call5_v144 : Ref sig .tc := ⟨.hbm, 952, rfl⟩
abbrev main_call1_call5_c_37 : Ref sig .tc := ⟨.hbm, 953, rfl⟩
abbrev main_call1_call5_v145 : Ref sig .tc := ⟨.hbm, 954, rfl⟩
abbrev main_call1_call5_v146 : Ref sig .tc := ⟨.hbm, 955, rfl⟩
abbrev main_call1_call5_v147 : Ref sig .tc := ⟨.hbm, 956, rfl⟩
abbrev main_call1_call5_v148 : Ref sig .tc := ⟨.hbm, 957, rfl⟩
abbrev main_call1_call5_v149 : Ref sig .tc := ⟨.hbm, 958, rfl⟩
abbrev main_call1_call5_c_38 : Ref sig .tc := ⟨.hbm, 959, rfl⟩
abbrev main_call1_call5_v150 : Ref sig .tc := ⟨.hbm, 960, rfl⟩
abbrev main_call1_call5_v151 : Ref sig .tc := ⟨.hbm, 961, rfl⟩
abbrev main_call1_call5_c_39 : Ref sig .tc := ⟨.hbm, 962, rfl⟩
abbrev main_call1_call5_v152 : Ref sig .tc := ⟨.hbm, 963, rfl⟩
abbrev main_call1_call5_v153 : Ref sig .tc := ⟨.hbm, 964, rfl⟩
abbrev main_call1_call5_v154 : Ref sig .tc := ⟨.hbm, 965, rfl⟩
abbrev main_call1_call5_v155 : Ref sig .tc := ⟨.hbm, 966, rfl⟩
abbrev main_call1_call5_v156 : Ref sig .tc := ⟨.hbm, 967, rfl⟩
abbrev main_call1_call5_c_40 : Ref sig .tc := ⟨.hbm, 968, rfl⟩
abbrev main_call1_call5_v157 : Ref sig .tc := ⟨.hbm, 969, rfl⟩
abbrev main_call1_call5_v158 : Ref sig .tc := ⟨.hbm, 970, rfl⟩
abbrev main_call1_call5_c_41 : Ref sig .tc := ⟨.hbm, 971, rfl⟩
abbrev main_call1_call5_v159 : Ref sig .tc := ⟨.hbm, 972, rfl⟩
abbrev main_call1_call5_v160 : Ref sig .tc := ⟨.hbm, 973, rfl⟩
abbrev main_call1_call5_v161 : Ref sig .tc := ⟨.hbm, 974, rfl⟩
abbrev main_call1_call5_v162 : Ref sig .tc := ⟨.hbm, 975, rfl⟩
abbrev main_call1_call5_v163 : Ref sig .tc := ⟨.hbm, 976, rfl⟩
abbrev main_call1_call5_c_42 : Ref sig .tc := ⟨.hbm, 977, rfl⟩
abbrev main_call1_call5_v164 : Ref sig .tc := ⟨.hbm, 978, rfl⟩
abbrev main_call1_call5_v165 : Ref sig .tc := ⟨.hbm, 979, rfl⟩
abbrev main_call1_call5_c_43 : Ref sig .tc := ⟨.hbm, 980, rfl⟩
abbrev main_call1_call5_v166 : Ref sig .tc := ⟨.hbm, 981, rfl⟩
abbrev main_call1_call5_v167 : Ref sig .tc := ⟨.hbm, 982, rfl⟩
abbrev main_call1_call5_v168 : Ref sig .tc := ⟨.hbm, 983, rfl⟩
abbrev main_call1_call5_v169 : Ref sig .tc := ⟨.hbm, 984, rfl⟩
abbrev main_call1_call5_v170 : Ref sig .tc := ⟨.hbm, 985, rfl⟩
abbrev main_call1_v45_0 : Ref sig .tc := ⟨.hbm, 986, rfl⟩
abbrev main_call1_call5_v172 : Ref sig .tc := ⟨.hbm, 987, rfl⟩
abbrev main_call1_call5_v173 : Ref sig .tc := ⟨.hbm, 988, rfl⟩
abbrev main_call1_call5_c_44 : Ref sig .tc := ⟨.hbm, 989, rfl⟩
abbrev main_call1_call5_v174 : Ref sig .tc := ⟨.hbm, 990, rfl⟩
abbrev main_call1_v45_1 : Ref sig .tc := ⟨.hbm, 991, rfl⟩
abbrev main_call1_v46 : Ref sig .tc := ⟨.hbm, 992, rfl⟩
abbrev main_call1_v47 : Ref sig .tc := ⟨.hbm, 993, rfl⟩
abbrev main_call1_v48 : Ref sig .tc := ⟨.hbm, 994, rfl⟩
abbrev main_call1_v49 : Ref sig .tc := ⟨.hbm, 995, rfl⟩
abbrev main_call1_c_12 : Ref sig .tc := ⟨.hbm, 996, rfl⟩
abbrev main_call1_v50 : Ref sig .tc := ⟨.hbm, 997, rfl⟩
abbrev main_call1_v51 : Ref sig .tc := ⟨.hbm, 998, rfl⟩
abbrev main_call1_v52 : Ref sig .tc := ⟨.hbm, 999, rfl⟩
abbrev main_call1_v53 : Ref sig .tc := ⟨.hbm, 1000, rfl⟩
abbrev main_call1_v54 : Ref sig .tc := ⟨.hbm, 1001, rfl⟩
abbrev main_call1_c_13 : Ref sig .tc := ⟨.hbm, 1002, rfl⟩
abbrev main_call1_v55 : Ref sig .tc := ⟨.hbm, 1003, rfl⟩
abbrev main_call1_v56 : Ref sig .tc := ⟨.hbm, 1004, rfl⟩
abbrev main_call1_v57 : Ref sig .tc := ⟨.hbm, 1005, rfl⟩
abbrev main_call1_c_14 : Ref sig .tc := ⟨.hbm, 1006, rfl⟩
abbrev main_call1_v58 : Ref sig .tc := ⟨.hbm, 1007, rfl⟩
abbrev main_call1_v59 : Ref sig .tc := ⟨.hbm, 1008, rfl⟩
abbrev main_call1_v60 : Ref sig .tc := ⟨.hbm, 1009, rfl⟩
abbrev main_call1_v61 : Ref sig .tc := ⟨.hbm, 1010, rfl⟩
abbrev main_call1_v62 : Ref sig .tc := ⟨.hbm, 1011, rfl⟩
abbrev main_call1_v63 : Ref sig .tc := ⟨.hbm, 1012, rfl⟩
abbrev main_call1_v64 : Ref sig .tc := ⟨.hbm, 1013, rfl⟩
abbrev main_call1_v65 : Ref sig .tc := ⟨.hbm, 1014, rfl⟩
abbrev main_call1_v66 : Ref sig .tc := ⟨.hbm, 1015, rfl⟩
abbrev main_call1_v67 : Ref sig .tc := ⟨.hbm, 1016, rfl⟩
abbrev main_call1_v68 : Ref sig .tc := ⟨.hbm, 1017, rfl⟩
abbrev main_call1_v69 : Ref sig .tc := ⟨.hbm, 1018, rfl⟩
abbrev main_call1_v70 : Ref sig .tc := ⟨.hbm, 1019, rfl⟩
abbrev main_call1_v71 : Ref sig .tc := ⟨.hbm, 1020, rfl⟩
abbrev main_call1_v72 : Ref sig .tc := ⟨.hbm, 1021, rfl⟩
abbrev main_v8 : Ref sig .tc := ⟨.hbm, 1022, rfl⟩
abbrev main_cst : Ref sig .tc := ⟨.hbm, 1023, rfl⟩
abbrev main_v9 : Ref sig .tc := ⟨.hbm, 1024, rfl⟩
abbrev main_v10 : Ref sig .tc := ⟨.hbm, 1025, rfl⟩
abbrev main_v11 : Ref sig .tc := ⟨.hbm, 1026, rfl⟩
abbrev main_v12 : Ref sig .tc := ⟨.hbm, 1027, rfl⟩

abbrev nD : Nat := 1
abbrev τ : Topo := Topo.v7x

variable {F : FTy → Type} [FloatOps F]
-- ==== Proof.Threefry.lean ====
/- The generator in words: one round of Threefry-2x32, its twenty rounds with the key words added in, and the
   drawn number of a counter. Nothing here belongs to either program; both are shown to compute it. -/
module

public import Idealize.ShloMosaic.PureOps.Float

@[expose] public section

namespace Cert.Proof.Words

/-- One round: the first word takes the sum, the second is rotated left by `r` (`s` is `32 - r`) and mixed with it. -/
def rnd (r s : BitVec 32) (p : BitVec 32 × BitVec 32) : BitVec 32 × BitVec 32 :=
  (p.1 + p.2, (p.1 + p.2) ^^^ (p.2 <<< r ||| p.2 >>> s))

/-- The key words `a` and `b` added to the two words, the second with the group's number `n` besides. -/
def inj (a b n : BitVec 32) (p : BitVec 32 × BitVec 32) : BitVec 32 × BitVec 32 := (p.1 + a, p.2 + b + n)

/-- Four rounds by 13, 15, 26 and 6. -/
def groupA (p : BitVec 32 × BitVec 32) : BitVec 32 × BitVec 32 := rnd 6#32 26#32 (rnd 26#32 6#32 (rnd 15#32 17#32 (rnd 13#32 19#32 p)))
/-- Four rounds by 17, 29, 16 and 24. -/
def groupB (p : BitVec 32 × BitVec 32) : BitVec 32 × BitVec 32 := rnd 24#32 8#32 (rnd 16#32 16#32 (rnd 29#32 3#32 (rnd 17#32 15#32 p)))

/-- The twenty rounds under the key words `k0`, `k1` and the third word `k2`. -/
def rounds (k0 k1 k2 : BitVec 32) (p : BitVec 32 × BitVec 32) : BitVec 32 × BitVec 32 :=
  inj k2 k0 5#32 (groupA (inj k1 k2 4#32 (groupB (inj k0 k1 3#32 (groupA (inj k2 k0 2#32 (groupB (inj k1 k2 1#32 (groupA p)))))))))

/-- The third key word. -/
def third (k0 k1 : BitVec 32) : BitVec 32 := (k0 ^^^ k1) ^^^ 466688986#32

/-- Threefry-2x32 of the counter `p` under the key `(k0, k1)`. -/
def threefry (k0 k1 : BitVec 32) (p : BitVec 32 × BitVec 32) : BitVec 32 × BitVec 32 :=
  rounds k0 k1 (third k0 k1) (p.1 + k0, p.2 + k1)

/-- The number drawn at the counter word `n`: the two words of the block cipher under the low half's key, mixed
    and taken modulo a million. -/
def drawn (n : BitVec 32) : BitVec 32 :=
  ((threefry 3968330031#32 3923691647#32 (0#32, n)).1 ^^^ (threefry 3968330031#32 3923691647#32 (0#32, n)).2) % 1000000#32

end Cert.Proof.Words

end
-- ==== Proof.IdealWords.lean ====
/- The five words the kernel's pipeline loop carries, in closed form, and what the loop computes of them: its
   conditions, its offsets, its side conditions. Everything here is arithmetic of 32-bit words over 32 trips. -/
module

public import proofs.«01_k».proof.Proof.Gen.KernelIdeal.Skeleton
public import Idealize.ShloMosaic.Lib.Ring
public import Idealize.ShloMosaic.Lib.Tactic

@[expose] public section

noncomputable section

namespace Cert.Proof.KernelIdeal

open Cert.KernelIdeal Cert.KernelIdeal.Gen
open Idealize.ShloMosaic Idealize.ShloMosaic.Tactic
open Idealize.SL.Sem

/-! ## The canonical offsets -/

/-- Where block `b` of a result starts: row `512 b`. -/
abbrev blkOff (b : Fin 32) : Fin 2 → Nat := ![512 * b.val, 0]
/-- A block lies within the result. -/
theorem blkOff_inb (b : Fin 32) : ∀ a, blkOff b a + S512x200.size a ≤ S16384x200.size a := by
  have := b.isLt; intro a; fin_cases a
  · show 512 * b.val + 512 ≤ 16384; omega
  · show 0 + 200 ≤ 200; omega
/-- Where slot `s` of a staging buffer starts. -/
abbrev slotOff (s : Fin 2) : Fin 3 → Nat := ![s.val, 0, 0]
/-- A slot lies within its staging buffer. -/
theorem slotOff_inb (s : Fin 2) : ∀ a, slotOff s a + S1x512x200.size a ≤ S2x512x200.size a := by
  have := s.isLt; intro a; fin_cases a
  · show s.val + 1 ≤ 2; omega
  · show 0 + 512 ≤ 512; omega
  · show 0 + 200 ≤ 200; omega
/-- Which of its two semaphores slot `s` completes on. -/
abbrev semOff (s : Fin 2) : Fin 1 → Nat := ![s.val]
/-- A slot's semaphore is one of the two. -/
theorem semOff_inb (s : Fin 2) : ∀ a, semOff s a + S1.size a ≤ S2.size a := by
  have := s.isLt; intro a; fin_cases a; show s.val + 1 ≤ 2; omega

instance (s : Fin 2) : ClosedOff (slotOff s) := ⟨slotOff s, rfl⟩
instance (b : Fin 32) : ClosedOff (blkOff b) := ⟨blkOff b, rfl⟩

/-! ## The carried words -/

/-- The loop makes 32 trips. -/
theorem trips_eq : k0_t1_loop.trips = 32 := by decide

/-- A number as a word. -/
def w (k : ℕ) : BitVec 32 := BitVec.ofNat 32 k
/-- The block index the loop carries: it wraps to 0 after the last block. -/
def wrap (k : ℕ) : BitVec 32 := w (k % 32)
/-- The five words before trip `k`: copies issued, copies waited, for each result, and the block index. -/
def carry (k : ℕ) : BitVec 32 × BitVec 32 × BitVec 32 × BitVec 32 × BitVec 32 :=
  (w k, w (k - 1), w k, w (k - 1), wrap k)

/-- A count of copies modulo two is its slot. -/
theorem remui_two (k : ℕ) : (Scalar.remui (w k) 2#32).toNat = (Ring.sl 2 k).val := by
  show (BitVec.umod (BitVec.ofNat 32 k) 2#32).toNat = k % 2
  simp [BitVec.umod]
/-- A count of copies, as the start of its slot. -/
theorem slotOff_word (k : ℕ) : (![(Scalar.remui (w k) 2#32).toNat, 0, 0] : Fin 3 → Nat) = slotOff (Ring.sl 2 k) := by
  rw [remui_two]
/-- A count of copies, as the place of its semaphore. -/
theorem semOff_word (k : ℕ) : (![(Scalar.remui (w k) 2#32).toNat] : Fin 1 → Nat) = semOff (Ring.sl 2 k) := by
  rw [remui_two]

/-- Trip `k` stores the numbers in slot `k mod 2`, -/
theorem off1_eq (k : ℕ) : k0_off1 (w k) = slotOff (Ring.sl 2 k) := slotOff_word k
/-- and the constant in slot `k mod 2`; -/
theorem off2_eq (k : ℕ) : k0_off2 (w k) = slotOff (Ring.sl 2 k) := slotOff_word k
/-- the numbers' copy out completes on that slot's semaphore -/
theorem off3_eq (k : ℕ) : k0_off3 (w k) = semOff (Ring.sl 2 k) := semOff_word k
/-- and starts from that slot; -/
theorem off5_eq (k : ℕ) : k0_off5 (w k) = slotOff (Ring.sl 2 k) := slotOff_word k
/-- the constant's copy out completes on that slot's semaphore -/
theorem off6_eq (k : ℕ) : k0_off6 (w k) = semOff (Ring.sl 2 k) := semOff_word k
/-- and starts from that slot. -/
theorem off8_eq (k : ℕ) : k0_off8 (w k) = slotOff (Ring.sl 2 k) := slotOff_word k
/-- The wait for the numbers' earlier copy is on its slot's semaphore -/
theorem off9_eq (k : ℕ) : k0_off9 (w k) = semOff (Ring.sl 2 k) := semOff_word k
/-- and names its slot; -/
theorem off11_eq (k : ℕ) : k0_off11 (w k) = slotOff (Ring.sl 2 k) := slotOff_word k
/-- the wait for the constant's earlier copy is on its slot's semaphore -/
theorem off12_eq (k : ℕ) : k0_off12 (w k) = semOff (Ring.sl 2 k) := semOff_word k
/-- and names its slot. -/
theorem off14_eq (k : ℕ) : k0_off14 (w k) = slotOff (Ring.sl 2 k) := slotOff_word k
/-- The last wait for the numbers is on the last slot's semaphore -/
theorem off15_eq (k : ℕ) : k0_off15 (w k) = semOff (Ring.sl 2 k) := semOff_word k
/-- and names the last slot; -/
theorem off17_eq (k : ℕ) : k0_off17 (w k) = slotOff (Ring.sl 2 k) := slotOff_word k
/-- the last wait for the constant is on the last slot's semaphore -/
theorem off18_eq (k : ℕ) : k0_off18 (w k) = semOff (Ring.sl 2 k) := semOff_word k
/-- and names the last slot. -/
theorem off20_eq (k : ℕ) : k0_off20 (w k) = slotOff (Ring.sl 2 k) := slotOff_word k

/-- The numbers' block at each trip. -/
theorem off4_all : ∀ k : Fin 32, k0_off4 (w k.val) = blkOff k := by decide
/-- The constant's block at each trip. -/
theorem off7_all : ∀ k : Fin 32, k0_off7 (w k.val) = blkOff k := by decide
/-- The numbers' block awaited at each trip but the first. -/
theorem off10_all : ∀ k : Fin 31, k0_off10 (w (k.val + 1)) = blkOff ⟨k.val, by omega⟩ := by decide
/-- The constant's block awaited at each trip but the first. -/
theorem off13_all : ∀ k : Fin 31, k0_off13 (w (k.val + 1)) = blkOff ⟨k.val, by omega⟩ := by decide

/-- A trip's number as a block's. -/
theorem bk_eq (k : ℕ) (hk : k < 32) : Ring.bk 32 k = ⟨k, hk⟩ := Fin.ext (Ring.bk_val hk)

/-- Trip `k` copies out to block `k`, -/
theorem off4_eq (k : ℕ) (hk : k < 32) : k0_off4 (w k) = blkOff (Ring.bk 32 k) := by
  rw [bk_eq k hk]; exact off4_all ⟨k, hk⟩
/-- the constant like the numbers, -/
theorem off7_eq (k : ℕ) (hk : k < 32) : k0_off7 (w k) = blkOff (Ring.bk 32 k) := by
  rw [bk_eq k hk]; exact off7_all ⟨k, hk⟩
/-- and, from the second on, waits for block `k - 1`. -/
theorem off10_eq (k : ℕ) (hk : k + 1 < 32) : k0_off10 (w (k + 1)) = blkOff (Ring.bk 32 k) := by
  rw [bk_eq k (by omega)]; exact off10_all ⟨k, by omega⟩
/-- So does the constant. -/
theorem off13_eq (k : ℕ) (hk : k + 1 < 32) : k0_off13 (w (k + 1)) = blkOff (Ring.bk 32 k) := by
  rw [bk_eq k (by omega)]; exact off13_all ⟨k, by omega⟩
/-- After the loop the block index has wrapped to 0, and the last wait is for block 31. -/
theorem off16_eq : k0_off16 (wrap 32) = blkOff (Ring.bk 32 31) := by decide
/-- So for the constant. -/
theorem off19_eq : k0_off19 (wrap 32) = blkOff (Ring.bk 32 31) := by decide

/-! ## The conditions -/

/-- Every trip copies its block out, -/
theorem cond3_all : ∀ k : Fin k0_t1_loop.trips, k0_cond3 k (w k.val) = 1#1 := by decide
/-- the constant's like the numbers', -/
theorem cond4_all : ∀ k : Fin k0_t1_loop.trips, k0_cond4 k (w k.val) = 1#1 := by decide
/-- and every trip but the first waits for the block before. -/
theorem cond5_all : ∀ k : Fin k0_t1_loop.trips, (k0_cond5 k (w k.val) = 1#1) = (k.val ≠ 0) := by decide
/-- So for the constant. -/
theorem cond6_all : ∀ k : Fin k0_t1_loop.trips, (k0_cond6 k (w k.val) = 1#1) = (k.val ≠ 0) := by decide

/-! ## The side conditions -/

/-- The numbers' slot is in bounds. -/
theorem chk1_of (k : ℕ) : k0_chk1 (w k) := by unfold k0_chk1; rw [off1_eq]; exact slotOff_inb _
/-- The constant's slot is in bounds. -/
theorem chk2_of (k : ℕ) : k0_chk2 (w k) := by unfold k0_chk2; rw [off2_eq]; exact slotOff_inb _
/-- The last wait for the numbers is in bounds. -/
theorem chk4_of (k : ℕ) : k0_chk4 (w k) := by
  unfold k0_chk4; rw [off15_eq, off17_eq]; exact ⟨semOff_inb _, slotOff_inb _⟩
/-- The last blocks awaited are in bounds. -/
theorem chk5_of : k0_chk5 (wrap 32) := by
  unfold k0_chk5; rw [off16_eq, off19_eq]; exact ⟨blkOff_inb _, blkOff_inb _⟩
/-- The last wait for the constant is in bounds. -/
theorem chk6_of (k : ℕ) : k0_chk6 (w k) := by
  unfold k0_chk6; rw [off18_eq, off20_eq]; exact ⟨semOff_inb _, slotOff_inb _⟩
/-- The numbers' block awaited is in bounds. -/
theorem off10_inb (k : Fin k0_t1_loop.trips) (h : k0_cond5 k (w k.val) = 1#1) :
    ∀ a, (k0_off10 (w k.val)) a + S512x200.size a ≤ S16384x200.size a := by
  rw [cond5_all] at h
  have hk : k.val < 32 := Nat.lt_of_lt_of_eq k.isLt trips_eq
  rw [show k.val = (k.val - 1) + 1 by omega, off10_eq _ (by omega)]; exact blkOff_inb _
/-- The constant's block awaited is in bounds. -/
theorem off13_inb (k : Fin k0_t1_loop.trips) (h : k0_cond6 k (w k.val) = 1#1) :
    ∀ a, (k0_off13 (w k.val)) a + S512x200.size a ≤ S16384x200.size a := by
  rw [cond6_all] at h
  have hk : k.val < 32 := Nat.lt_of_lt_of_eq k.isLt trips_eq
  rw [show k.val = (k.val - 1) + 1 by omega, off13_eq _ (by omega)]; exact blkOff_inb _
/-- Everything that a trip copies or awaits is in bounds. -/
theorem chk3_of (k : Fin k0_t1_loop.trips) : k0_chk3 k (w k.val) (w (k.val - 1)) (w k.val) (w (k.val - 1)) (w k.val) := by
  have hk : k.val < 32 := Nat.lt_of_lt_of_eq k.isLt trips_eq
  refine ⟨fun _ => ?_, fun _ => ?_, fun _ => ?_, fun _ => ?_, fun _ => ?_, fun _ => ?_, fun _ => ?_, off10_inb k, fun _ => ?_, fun _ => ?_,
    off13_inb k, fun _ => ?_⟩
  · rw [off3_eq]; exact semOff_inb _
  · rw [off4_eq _ hk]; exact blkOff_inb _
  · rw [off5_eq]; exact slotOff_inb _
  · rw [off6_eq]; exact semOff_inb _
  · rw [off7_eq _ hk]; exact blkOff_inb _
  · rw [off8_eq]; exact slotOff_inb _
  · rw [off9_eq]; exact semOff_inb _
  · rw [off11_eq]; exact slotOff_inb _
  · rw [off12_eq]; exact semOff_inb _
  · rw [off14_eq]; exact slotOff_inb _

end Cert.Proof.KernelIdeal

end
-- ==== Proof.IdealPieces.lean ====
/- The canonical names of what the kernel's loop touches — a result's blocks, a staging buffer's two slots, the two
   semaphores of each — and the pieces its resources come in. Everything is stated for either result: `h` the
   result's array, `v` its staging buffer, `q` its semaphores. -/
module

public import proofs.«01_k».proof.Proof.IdealWords
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Canonical names -/

section Names
variable {e : EltTy} (h : Memref sig .tc .hbm S16384x200 e) (v : Memref sig .tc .vmem S2x512x200 e) (q : DmaSems sig S2)

/-- Block `b` of a result. -/
def hblk (b : Fin 32) : Memref sig .tc .hbm S512x200 e :=
  h.slice (Rect.unit (s := S16384x200) (blkOff b) S512x200.size (blkOff_inb b)) (fun _ => rfl)
/-- Slot `s` of a staging buffer. -/
def rslot (s : Fin 2) : Memref sig .tc .vmem S512x200 e :=
  (v.slice (Rect.unit (s := S2x512x200) (slotOff s) S1x512x200.size (slotOff_inb s)) (fun _ => rfl)).squeeze S512x200 squeezes_S1x512x200_S512x200
/-- Slot `s`'s semaphore. -/
def csm (s : Fin 2) : DmaSems sig S_ := (q.slice (Rect.unit (s := S2) (semOff s) S1.size (semOff_inb s))).squeeze S_ squeezes_S1_S_

/-- A semaphore cut out at a slot's place is that slot's. -/
theorem csm_congr {off : Fin 1 → Nat} {s : Fin 2} (e : off = semOff s) (hh) :
    (q.slice (Rect.unit (s := S2) off S1.size hh)).squeeze S_ squeezes_S1_S_ = csm q s :=
  congrArg (fun A : DmaSems sig S1 => A.squeeze S_ squeezes_S1_S_) (SemArray.slice_unit_congr _ e _ _)
/-- A part of a staging buffer cut out at a slot's start is that slot. -/
theorem rslot_congr {off : Fin 3 → Nat} {s : Fin 2} (eo : off = slotOff s) (hh hs) :
    (v.slice (Rect.unit (s := S2x512x200) off S1x512x200.size hh) hs).squeeze S512x200 squeezes_S1x512x200_S512x200 = rslot v s :=
  congrArg (fun M : Memref sig .tc .vmem S1x512x200 e => M.squeeze S512x200 squeezes_S1x512x200_S512x200) (Memref.slice_unit_congr _ eo _ _ _ _)
/-- A part of a result cut out at a block's start is that block. -/
theorem hblk_congr {off : Fin 2 → Nat} {b : Fin 32} (eo : off = blkOff b) (hh hs) :
    h.slice (Rect.unit (s := S16384x200) off S512x200.size hh) hs = hblk h b :=
  Memref.slice_unit_congr _ eo _ _ _ (fun _ => rfl)

variable (k : ℕ)

instance : ClosedOff (k0_off1 (w k)) := ⟨slotOff (Ring.sl 2 k), off1_eq k⟩
instance : ClosedOff (k0_off2 (w k)) := ⟨slotOff (Ring.sl 2 k), off2_eq k⟩
instance : ClosedOff (k0_off5 (w k)) := ⟨slotOff (Ring.sl 2 k), off5_eq k⟩
instance : ClosedOff (k0_off8 (w k)) := ⟨slotOff (Ring.sl 2 k), off8_eq k⟩

/-! What a trip starts: the copy of slot `k % 2` to block `k`. -/
@[sl_canon] theorem sem3 (hh) : (q.slice (Rect.unit (s := S2) (k0_off3 (w k)) S1.size hh)).squeeze S_ squeezes_S1_S_ = csm q (Ring.sl 2 k) := csm_congr q (off3_eq k) _
@[sl_canon] theorem sem6 (hh) : (q.slice (Rect.unit (s := S2) (k0_off6 (w k)) S1.size hh)).squeeze S_ squeezes_S1_S_ = csm q (Ring.sl 2 k) := csm_congr q (off6_eq k) _
@[sl_canon] theorem slot5 (hh hs) : (v.slice (Rect.unit (s := S2x512x200) (k0_off5 (w k)) S1x512x200.size hh) hs).squeeze S512x200 squeezes_S1x512x200_S512x200 = rslot v (Ring.sl 2 k) := rslot_congr v (off5_eq k) _ _
@[sl_canon] theorem slot8 (hh hs) : (v.slice (Rect.unit (s := S2x512x200) (k0_off8 (w k)) S1x512x200.size hh) hs).squeeze S512x200 squeezes_S1x512x200_S512x200 = rslot v (Ring.sl 2 k) := rslot_congr v (off8_eq k) _ _
@[sl_canon] theorem blk4 (hk : k < 32) (hh hs) : h.slice (Rect.unit (s := S16384x200) (k0_off4 (w k)) S512x200.size hh) hs = hblk h (Ring.bk 32 k) := hblk_congr h (off4_eq k hk) _ _
@[sl_canon] theorem blk7 (hk : k < 32) (hh hs) : h.slice (Rect.unit (s := S16384x200) (k0_off7 (w k)) S512x200.size hh) hs = hblk h (Ring.bk 32 k) := hblk_congr h (off7_eq k hk) _ _

/-! What it waits for: the copy the trip before started. -/
@[sl_canon] theorem sem9 (hh) : (q.slice (Rect.unit (s := S2) (k0_off9 (w k)) S1.size hh)).squeeze S_ squeezes_S1_S_ = csm q (Ring.sl 2 k) := csm_congr q (off9_eq k) _
@[sl_canon] theorem sem12 (hh) : (q.slice (Rect.unit (s := S2) (k0_off12 (w k)) S1.size hh)).squeeze S_ squeezes_S1_S_ = csm q (Ring.sl 2 k) := csm_congr q (off12_eq k) _
@[sl_canon] theorem slot11 (hh hs) : (v.slice (Rect.unit (s := S2x512x200) (k0_off11 (w k)) S1x512x200.size hh) hs).squeeze S512x200 squeezes_S1x512x200_S512x200 = rslot v (Ring.sl 2 k) := rslot_congr v (off11_eq k) _ _
@[sl_canon] theorem slot14 (hh hs) : (v.slice (Rect.unit (s := S2x512x200) (k0_off14 (w k)) S1x512x200.size hh) hs).squeeze S512x200 squeezes_S1x512x200_S512x200 = rslot v (Ring.sl 2 k) := rslot_congr v (off14_eq k) _ _
@[sl_canon] theorem blk10 (hk : k + 1 < 32) (hh hs) : h.slice (Rect.unit (s := S16384x200) (k0_off10 (w (k + 1))) S512x200.size hh) hs = hblk h (Ring.bk 32 k) := hblk_congr h (off10_eq k hk) _ _
@[sl_canon] theorem blk13 (hk : k + 1 < 32) (hh hs) : h.slice (Rect.unit (s := S16384x200) (k0_off13 (w (k + 1))) S512x200.size hh) hs = hblk h (Ring.bk 32 k) := hblk_congr h (off13_eq k hk) _ _

/-! What the kernel waits for after the loop. -/
@[sl_canon] theorem sem15 (hh) : (q.slice (Rect.unit (s := S2) (k0_off15 (w k)) S1.size hh)).squeeze S_ squeezes_S1_S_ = csm q (Ring.sl 2 k) := csm_congr q (off15_eq k) _
@[sl_canon] theorem sem18 (hh) : (q.slice (Rect.unit (s := S2) (k0_off18 (w k)) S1.size hh)).squeeze S_ squeezes_S1_S_ = csm q (Ring.sl 2 k) := csm_congr q (off18_eq k) _
@[sl_canon] theorem slot17 (hh hs) : (v.slice (Rect.unit (s := S2x512x200) (k0_off17 (w k)) S1x512x200.size hh) hs).squeeze S512x200 squeezes_S1x512x200_S512x200 = rslot v (Ring.sl 2 k) := rslot_congr v (off17_eq k) _ _
@[sl_canon] theorem slot20 (hh hs) : (v.slice (Rect.unit (s := S2x512x200) (k0_off20 (w k)) S1x512x200.size hh) hs).squeeze S512x200 squeezes_S1x512x200_S512x200 = rslot v (Ring.sl 2 k) := rslot_congr v (off20_eq k) _ _
@[sl_canon] theorem blk16 (hh hs) : h.slice (Rect.unit (s := S16384x200) (k0_off16 (wrap 32)) S512x200.size hh) hs = hblk h (Ring.bk 32 31) := hblk_congr h off16_eq _ _
@[sl_canon] theorem blk19 (hh hs) : h.slice (Rect.unit (s := S16384x200) (k0_off19 (wrap 32)) S512x200.size hh) hs = hblk h (Ring.bk 32 31) := hblk_congr h off19_eq _ _

end Names

/-! ## The pieces -/

section Pieces
variable {e : EltTy} (c : Dev nD) (h : Memref sig .tc .hbm S16384x200 e) (v : Memref sig .tc .vmem S2x512x200 e) (q : DmaSems sig S2)

/-- Slot `s`'s semaphore, at zero. -/
abbrev cellP (s : Fin 2) : sProp 𝕄 := semVal ((c : Thread nD τ), SemLoc.dma (csm q s).sem) 0
/-- Slot `s`, held at contents `g`. -/
abbrev slotP (s : Fin 2) (g : Buf (Elt F) ((rslot v s).view.loc (c : Thread nD τ))) : sProp 𝕄 :=
  (rslot v s).view.loc (c : Thread nD τ) ↦[(rslot v s).view.set]{fullShare} g
/-- Block `b`, held at an array's contents. -/
abbrev blkP (X : Buf (Elt F) (h.view.loc (c : Thread nD τ))) (b : Fin 32) : sProp 𝕄 :=
  (hblk h b).view.loc (c : Thread nD τ) ↦[(hblk h b).view.set]{fullShare} X
/-- What the copy of slot `s` at `g` leaves in block `b` over the array's contents `X`. -/
abbrev landed (s : Fin 2) (b : Fin 32) (g : Buf (Elt F) ((rslot v s).view.loc (c : Thread nD τ)))
    (X : Buf (Elt F) (h.view.loc (c : Thread nD τ))) : Buf (Elt F) ((hblk h b).view.loc (c : Thread nD τ)) :=
  (hblk h b).view.writes (Elt F) X [⟨Rect.whole S512x200, ReadAs.same.apply ((rslot v s).view.read (Elt F) g)⟩]
/-- The copy of slot `s` at `g` to block `b`, on its way. -/
abbrev flightP (s : Fin 2) (b : Fin 32) (g : Buf (Elt F) ((rslot v s).view.loc (c : Thread nD τ)))
    (X : Buf (Elt F) (h.view.loc (c : Thread nD τ))) : sProp 𝕄 :=
  Transfers.Flight countersEmb (c : Thread nD τ) (SemLoc.dma (csm q s).sem) () 16384
    iprop(((hblk h b).view.loc (c : Thread nD τ) ↦[(hblk h b).view.set]{fullShare} landed c h v s b g X) ∗ slotP c v s g)

end Pieces

end Cert.Proof.KernelIdeal

end
-- ==== Proof.IdealPayload.lean ====
/- What one trip stores: the words the kernel's chain of vector operations computes, round by round, and that the
   stored block is the drawn number of each element's place in the whole array. -/
module

public import proofs.«01_k».proof.Proof.IdealWords
public import proofs.«01_k».proof.Proof.Threefry
public import Idealize.ShloMosaic.Lib.Pipeline.Value

@[expose] public section

noncomputable section

namespace Cert.Proof.KernelIdeal

open Cert.KernelIdeal Cert.KernelIdeal.Gen Cert.Proof.Words
open Idealize.ShloMosaic

section Rounds
variable (b : BitVec 32) (i : S512x200.Idx)

/-! ## The first group of rounds -/

/-- Round: the first. -/
theorem pay2_3 : (k0_pay2 b i, k0_pay3 b i) = rnd 13#32 19#32 (3968330031#32, k0_pay1 b i) := rfl
/-- Round: the second. -/
theorem pay4_5 : (k0_pay4 b i, k0_pay5 b i) = rnd 15#32 17#32 (k0_pay2 b i, k0_pay3 b i) := rfl
/-- Round: the third. -/
theorem pay6_7 : (k0_pay6 b i, k0_pay7 b i) = rnd 26#32 6#32 (k0_pay4 b i, k0_pay5 b i) := rfl

/-! ## The second -/

/-- The three values the second group starts from. -/
abbrev s122 : IVec S512x200 32 := k0_pay7 b
abbrev s123 : IVec S512x200 32 := k0_pay8 b
abbrev s125 : IVec S512x200 32 := k0_pay9 b

abbrev g10 := k0_pay10 (s122 b) (s123 b) (s125 b)
abbrev g11 := k0_pay11 (s122 b) (s123 b) (s125 b)
abbrev g12 := k0_pay12 (s122 b) (s123 b) (s125 b)
abbrev g13 := k0_pay13 (s122 b) (s123 b) (s125 b)
abbrev g14 := k0_pay14 (s122 b) (s123 b) (s125 b)
abbrev g15 := k0_pay15 (s122 b) (s123 b) (s125 b)
abbrev g16 := k0_pay16 (s122 b) (s123 b) (s125 b)
abbrev s169 := k0_pay18 (s122 b) (s123 b) (s125 b)
abbrev s170 := k0_pay19 (s122 b) (s123 b) (s125 b)

/-- Round: the fourth, a key and the fifth. -/
theorem pay11_12 : (g11 b i, g12 b i) = rnd 17#32 15#32 (inj 3923691647#32 512244362#32 1#32 (rnd 6#32 26#32 (k0_pay6 b i, k0_pay7 b i))) := rfl
/-- Round: the sixth. -/
theorem pay13_14 : (g13 b i, g14 b i) = rnd 29#32 3#32 (g11 b i, g12 b i) := rfl
/-- Round: the seventh. -/
theorem pay15_16 : (g15 b i, g16 b i) = rnd 16#32 16#32 (g13 b i, g14 b i) := rfl

/-! ## The third -/

abbrev g20 := k0_pay20 (s169 b) (s170 b)
abbrev g21 := k0_pay21 (s169 b) (s170 b)
abbrev g22 := k0_pay22 (s169 b) (s170 b)
abbrev g23 := k0_pay23 (s169 b) (s170 b)
abbrev g24 := k0_pay24 (s169 b) (s170 b)
abbrev g27 := k0_pay27 (s169 b) (s170 b)
abbrev g28 := k0_pay28 (s169 b) (s170 b)
abbrev s211 := k0_pay29 (s169 b) (s170 b)
abbrev s213 := k0_pay30 (s169 b) (s170 b)
abbrev s215 := k0_pay31 (s169 b) (s170 b)

/-- Round: the eighth, a key and the ninth. -/
theorem pay19_20 : (s170 b i, g20 b i) = rnd 13#32 19#32 (inj 512244362#32 3968330031#32 2#32 (rnd 24#32 8#32 (g15 b i, g16 b i))) := rfl
/-- Round: the tenth. -/
theorem pay21_22 : (g21 b i, g22 b i) = rnd 15#32 17#32 (s170 b i, g20 b i) := rfl
/-- Round: the eleventh. -/
theorem pay23_24 : (g23 b i, g24 b i) = rnd 26#32 6#32 (g21 b i, g22 b i) := rfl

/-! ## The fourth -/

abbrev g32 := k0_pay32 (s211 b) (s213 b) (s215 b)
abbrev g33 := k0_pay33 (s211 b) (s213 b) (s215 b)
abbrev g34 := k0_pay34 (s211 b) (s213 b) (s215 b)
abbrev g37 := k0_pay37 (s211 b) (s213 b) (s215 b)
abbrev g38 := k0_pay38 (s211 b) (s213 b) (s215 b)
abbrev g39 := k0_pay39 (s211 b) (s213 b) (s215 b)
abbrev g40 := k0_pay40 (s211 b) (s213 b) (s215 b)
abbrev g41 := k0_pay41 (s211 b) (s213 b) (s215 b)
abbrev s258 := k0_pay42 (s211 b) (s213 b) (s215 b)
abbrev s259 := k0_pay43 (s211 b) (s213 b) (s215 b)
abbrev s261 := k0_pay44 (s211 b) (s213 b) (s215 b)

/-- Round: the twelfth, a key and the thirteenth. -/
theorem pay27_28 : (g27 b i, g28 b i) = rnd 17#32 15#32 (inj 3968330031#32 3923691647#32 3#32 (rnd 6#32 26#32 (g23 b i, g24 b i))) := rfl
/-- Round: the fourteenth. -/
theorem pay29_32 : (s211 b i, g32 b i) = rnd 29#32 3#32 (g27 b i, g28 b i) := rfl
/-- Round: the fifteenth. -/
theorem pay33_34 : (g33 b i, g34 b i) = rnd 16#32 16#32 (s211 b i, g32 b i) := rfl

/-! ## The fifth -/

/-- Round: the sixteenth, a key and the seventeenth. -/
theorem pay37_38 : (g37 b i, g38 b i) = rnd 13#32 19#32 (inj 3923691647#32 512244362#32 4#32 (rnd 24#32 8#32 (g33 b i, g34 b i))) := rfl
/-- Round: the eighteenth. -/
theorem pay39_40 : (g39 b i, g40 b i) = rnd 15#32 17#32 (g37 b i, g38 b i) := rfl
/-- Round: the nineteenth. -/
theorem pay41_42 : (g41 b i, s258 b i) = rnd 26#32 6#32 (g39 b i, g40 b i) := rfl

end Rounds

/-! ## The stored block -/

/-- A pair of words mixed and taken modulo a million. -/
def mixed (p : BitVec 32 × BitVec 32) : BitVec 32 := (p.1 ^^^ p.2) % 1000000#32

/-- The words the chain stores, before the reshape to a slot's shape. -/
def stored (b : BitVec 32) : IVec S512x200 32 := fun i =>
  mixed (inj 512244362#32 3968330031#32 5#32 (rnd 6#32 26#32 (g41 b i, s258 b i)))

/-- The block stored is the mixed words modulo a million, in the slot's shape. -/
theorem pay45_eq (b : BitVec 32) :
    k0_pay45 (s258 b) (s259 b) (s261 b) = shapeCast S1x512x200 (stored b) shapeCasts_S512x200_S1x512x200 := rfl

/-- The counter of an element of block `b`, the second key word added. -/
theorem pay1_apply (b : BitVec 32) (i : S512x200.Idx) :
    k0_pay1 b i = ((b * 512#32 + BitVec.ofNat 32 (0 * 512 + (i 0).val)) * 200#32 + BitVec.ofNat 32 (0 * 200 + (i 1).val)) + 3923691647#32 := rfl

/-- The twenty rounds of the chain. -/
theorem stored_apply (b : BitVec 32) (i : S512x200.Idx) :
    stored b i = mixed (rounds 3968330031#32 3923691647#32 512244362#32 (3968330031#32, k0_pay1 b i)) := by
  unfold stored rounds groupA groupB
  rw [pay41_42, pay39_40, pay37_38, pay33_34, pay29_32, pay27_28, pay23_24, pay21_22, pay19_20, pay15_16, pay13_14, pay11_12, pay6_7, pay4_5, pay2_3]

/-- The first result's block `k`: the number drawn at the element's place in the whole array. -/
def VAL0 (k : ℕ) (i : S512x200.Idx) : BitVec 32 := drawn (BitVec.ofNat 32 ((512 * k + (i 0).val) * 200 + (i 1).val))

/-- What trip `k` stores is the first result's block `k`. -/
theorem stored_eq (k : ℕ) : stored (w k) = VAL0 k := by
  funext i
  rw [stored_apply, pay1_apply]
  have hn : (w k * 512#32 + BitVec.ofNat 32 (0 * 512 + (i 0).val)) * 200#32 + BitVec.ofNat 32 (0 * 200 + (i 1).val)
      = BitVec.ofNat 32 ((512 * k + (i 0).val) * 200 + (i 1).val) := by
    rw [Nat.zero_mul, Nat.zero_add, Nat.zero_add, BitVec.ofNat_add, BitVec.ofNat_mul, BitVec.ofNat_add, BitVec.ofNat_mul, BitVec.mul_comm (BitVec.ofNat 32 512)]
    rfl
  have h3 : third 3968330031#32 3923691647#32 = 512244362#32 := by decide
  rw [hn]
  unfold VAL0 drawn threefry mixed
  rw [h3, BitVec.zero_add]

end Cert.Proof.KernelIdeal

end
-- ==== Proof.IdealTrip.lean ====
/- One trip of the kernel's loop, at the first position and at every later one: it stores the trip's blocks into a
   slot of each staging buffer, starts their copies, and from the second trip on waits for the copies the trip before started. -/
module

public import proofs.«01_k».proof.Proof.IdealPieces
public import proofs.«01_k».proof.Proof.IdealPayload
public import Idealize.ShloMosaic.Lib.ViewIndex

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The two results -/

abbrev h0 : Memref sig .tc .hbm S16384x200 .i32 := Memref.whole main_v0_0
abbrev h1 : Memref sig .tc .hbm S16384x200 .f32 := Memref.whole main_v0_1
abbrev v0 : Memref sig .tc .vmem S2x512x200 .i32 := Memref.whole cc0_scoped0
abbrev v1 : Memref sig .tc .vmem S2x512x200 .f32 := Memref.whole cc0_scoped2
abbrev q0 : DmaSems sig S2 := cc0_scoped1
abbrev q1 : DmaSems sig S2 := cc0_scoped3

/-- The second result's block: one value everywhere. -/
def VAL1 : S512x200.Idx → Elt F .f32 := fun _ => Named.named κ "neg_log_items" 0xC15D0C55#32

/-- One trip. -/
abbrev tripG (k : Fin k0_t1_loop.trips) (acc : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) h0 (Memref.isWhole_whole _) h1 (Memref.isWhole_whole _) v0 (Memref.isWhole_whole _) q0 v1 (Memref.isWhole_whole _) q1 k acc

section Reads
variable {e : EltTy} (v : Memref sig .tc .vmem S2x512x200 e) (h : Memref sig .tc .hbm S16384x200 e)

/-- A slot read back after a store of a whole slot's block holds the block. -/
theorem slot_read {off : Fin 3 → Nat} {s : Fin 2} (eo : off = slotOff s) (inb) (f) (y : S512x200.Idx → Elt F e) (hy) :
    (rslot v s).view.read (Elt F) (View.write (Elt F) (v.access (Rect.unit (s := S2x512x200) off S1x512x200.size inb)) f (shapeCast S1x512x200 y hy) Finset.univ) = y := by
  subst eo
  refine funext fun x => ?_
  refine (congrFun (View.read_write_univ (v := v.access (Rect.unit (s := S2x512x200) (slotOff s) S1x512x200.size inb)) f (shapeCast S1x512x200 y hy)) (Shape.reshapeEquiv squeezes_S1x512x200_S512x200.numel_eq x)).trans ?_
  exact congrFun (shapeCast_shapeCast y hy (t := S1x512x200) (s := S512x200) squeezes_S1x512x200_S512x200.numel_eq) x

end Reads

section Pieces2
variable {e : EltTy} (c : Dev nD) (h : Memref sig .tc .hbm S16384x200 e) (v : Memref sig .tc .vmem S2x512x200 e) (q : DmaSems sig S2)

/-- The copy to block `b` of a slot that holds the values `y`, on its way. -/
abbrev flyP (s : Fin 2) (b : Fin 32) (y : S512x200.Idx → Elt F e) (X : Buf (Elt F) (h.view.loc (c : Thread nD τ))) : sProp 𝕄 :=
  iprop(∃ g, ⌜(rslot v s).view.read (Elt F) g = y⌝ ∗ flightP c h v q s b g X)

/-- What the copy leaves is, on the block, any array that reads the slot's values there. -/
theorem landed_eq {s : Fin 2} {b : Fin 32} {g} {y : S512x200.Idx → Elt F e} {X}
    (hg : (rslot v s).view.read (Elt F) g = y) (O : Buf (Elt F) (h.view.loc (c : Thread nD τ)))
    (hO : (hblk h b).view.read (Elt F) O = y) : ∀ i ∈ (hblk h b).view.set, landed c h v s b g X i = O i := by
  intro i hi
  obtain ⟨x, -, rfl⟩ := Finset.mem_map.mp hi
  refine View.eq_of_read_eq (v := (hblk h b).view) ?_
  refine (congrFun (View.read_writes_whole _ _ _) x).trans ?_
  rw [hO, ← hg]

end Pieces2

variable (c : Dev nD) (X0 : Buf (Elt F) (h0.view.loc (c : Thread nD τ))) (X1 : Buf (Elt F) (h1.view.loc (c : Thread nD τ)))

/-- The first trip: nothing is on its way yet. -/
theorem tripFirst (k : ℕ) (hk : k < 32) (h0k : k < k0_t1_loop.trips) (hz : k = 0)
    (f0 f1) :
    iprop((∃ W, owes (c : Thread nD τ) 0 W)
      ∗ blkP c h0 X0 (Ring.bk 32 k) ∗ slotP c v0 (Ring.sl 2 k) f0 ∗ cellP c q0 (Ring.sl 2 k)
      ∗ blkP c h1 X1 (Ring.bk 32 k) ∗ slotP c v1 (Ring.sl 2 k) f1 ∗ cellP c q1 (Ring.sl 2 k))
    ⊢ wp frame (wpE (defs₀ (F := F)) 𝒱₀ (c : Thread nD τ) none) Set.univ (tripG ⟨k, h0k⟩ (w k, w (k - 1), w k, w (k - 1), w k))
        (fun r => iprop(⌜r = carry (k + 1)⌝ ∗ (∃ W, owes (c : Thread nD τ) 0 W)
          ∗ flyP c h0 v0 q0 (Ring.sl 2 k) (Ring.bk 32 k) (VAL0 k) X0
          ∗ flyP c h1 v1 q1 (Ring.sl 2 k) (Ring.bk 32 k) VAL1 X1)) := by
  have hc1 : k0_chk1 (w k) := chk1_of k
  have hc2 : k0_chk2 (w k) := chk2_of k
  have hc3 : k0_chk3 ⟨k, h0k⟩ (w k) (w (k - 1)) (w k) (w (k - 1)) (w k) := chk3_of ⟨k, h0k⟩
  have hd3 : k0_cond3 ⟨k, h0k⟩ (w k) = 1#1 := cond3_all ⟨k, h0k⟩
  have hd4 : k0_cond4 ⟨k, h0k⟩ (w k) = 1#1 := cond4_all ⟨k, h0k⟩
  have hd5 : ¬ (k0_cond5 ⟨k, h0k⟩ (w k) = 1#1) := by rw [cond5_all ⟨k, h0k⟩]; simpa using hz
  have hd6 : ¬ (k0_cond6 ⟨k, h0k⟩ (w k) = 1#1) := by rw [cond6_all ⟨k, h0k⟩]; simpa using hz
  iintro ⟨⟨%W, HW⟩, HB0, HS0, HC0, HB1, HS1, HC1⟩
  dsimp only [tripG]
  sl_unfold [k0_t1_body]
  rw [k0_part2_eq_skeleton, k0_part3_eq_skeleton, k0_part4_eq_skeleton, k0_part5_eq_skeleton]
  sl_unfold [k0_part2_skel, k0_part3_skel, k0_part4_skel, k0_part5_skel]
  sl_exec
  sl_step
  isplitr
  · ipureintro
    subst hz
    decide +revert
  isplitl [HW]
  · iexists W; iexact HW
  isplitl [HC0]
  · iexists (tripFirst.sl.HS0_w1 c k f0 hc1)
    isplitr
    · ipureintro
      have h53 : tripFirst.sl.v53_r0 k = w k := BitVec.add_zero _
      unfold tripFirst.sl.HS0_w1
      rw [h53, pay45_eq]
      exact (slot_read (F := F) v0 (off1_eq k) _ _ (stored (w k)) shapeCasts_S512x200_S1x512x200).trans (stored_eq k)
    · iexact HC0
  · iexists (tripFirst.sl.HS1_w2 c k f1 hc2)
    isplitr
    · ipureintro
      exact slot_read (F := F) v1 (off2_eq k) _ _ VAL1 shapeCasts_S512x200_S1x512x200
    · iexact HC1

/-- A later trip: the copies the trip before started land, their blocks then hold the values they carried. -/
theorem tripNext (j : ℕ) (hk : j + 1 < 32) (h0k : j + 1 < k0_t1_loop.trips) (f0 f1)
    (O0 : Buf (Elt F) (h0.view.loc (c : Thread nD τ))) (O1 : Buf (Elt F) (h1.view.loc (c : Thread nD τ)))
    (hO0 : (hblk h0 (Ring.bk 32 j)).view.read (Elt F) O0 = VAL0 j) (hO1 : (hblk h1 (Ring.bk 32 j)).view.read (Elt F) O1 = VAL1) :
    iprop((∃ W, owes (c : Thread nD τ) 0 W)
      ∗ blkP c h0 X0 (Ring.bk 32 (j + 1)) ∗ slotP c v0 (Ring.sl 2 (j + 1)) f0 ∗ cellP c q0 (Ring.sl 2 (j + 1))
      ∗ blkP c h1 X1 (Ring.bk 32 (j + 1)) ∗ slotP c v1 (Ring.sl 2 (j + 1)) f1 ∗ cellP c q1 (Ring.sl 2 (j + 1))
      ∗ flyP c h0 v0 q0 (Ring.sl 2 j) (Ring.bk 32 j) (VAL0 j) X0
      ∗ flyP c h1 v1 q1 (Ring.sl 2 j) (Ring.bk 32 j) VAL1 X1)
    ⊢ wp frame (wpE (defs₀ (F := F)) 𝒱₀ (c : Thread nD τ) none) Set.univ (tripG ⟨j + 1, h0k⟩ (w (j + 1), w j, w (j + 1), w j, w (j + 1)))
        (fun r => iprop(⌜r = carry (j + 2)⌝ ∗ (∃ W, owes (c : Thread nD τ) 0 W)
          ∗ (flyP c h0 v0 q0 (Ring.sl 2 (j + 1)) (Ring.bk 32 (j + 1)) (VAL0 (j + 1)) X0 ∗ (∃ g, slotP c v0 (Ring.sl 2 j) g) ∗ cellP c q0 (Ring.sl 2 j) ∗ blkP c h0 O0 (Ring.bk 32 j))
          ∗ (flyP c h1 v1 q1 (Ring.sl 2 (j + 1)) (Ring.bk 32 (j + 1)) VAL1 X1 ∗ (∃ g, slotP c v1 (Ring.sl 2 j) g) ∗ cellP c q1 (Ring.sl 2 j) ∗ blkP c h1 O1 (Ring.bk 32 j)))) := by
  have hc1 : k0_chk1 (w (j + 1)) := chk1_of (j + 1)
  have hc2 : k0_chk2 (w (j + 1)) := chk2_of (j + 1)
  have hc3 : k0_chk3 ⟨j + 1, h0k⟩ (w (j + 1)) (w j) (w (j + 1)) (w j) (w (j + 1)) := chk3_of ⟨j + 1, h0k⟩
  have hd3 : k0_cond3 ⟨j + 1, h0k⟩ (w (j + 1)) = 1#1 := cond3_all ⟨j + 1, h0k⟩
  have hd4 : k0_cond4 ⟨j + 1, h0k⟩ (w (j + 1)) = 1#1 := cond4_all ⟨j + 1, h0k⟩
  have hd5 : k0_cond5 ⟨j + 1, h0k⟩ (w (j + 1)) = 1#1 := by rw [cond5_all ⟨j + 1, h0k⟩]; exact Nat.succ_ne_zero j
  have hd6 : k0_cond6 ⟨j + 1, h0k⟩ (w (j + 1)) = 1#1 := by rw [cond6_all ⟨j + 1, h0k⟩]; exact Nat.succ_ne_zero j
  iintro ⟨⟨%W, HW⟩, HB0, HS0, HC0, HB1, HS1, HC1, ⟨%g0, %hg0, HF0⟩, ⟨%g1, %hg1, HF1⟩⟩
  dsimp only [tripG]
  sl_unfold [k0_t1_body]
  rw [k0_part2_eq_skeleton, k0_part3_eq_skeleton, k0_part4_eq_skeleton, k0_part5_eq_skeleton]
  sl_unfold [k0_part2_skel, k0_part3_skel, k0_part4_skel, k0_part5_skel]
  sl_exec
  sl_step
  isplitr
  · ipureintro
    have key : ∀ k : Fin 31, (tripNext.sl.v290_r0 k.val (Nat.succ_lt_succ k.isLt), tripNext.sl.v305_r0 k.val (Nat.succ_lt_succ k.isLt), tripNext.sl.v290_r0 k.val (Nat.succ_lt_succ k.isLt),
        tripNext.sl.v305_r0 k.val (Nat.succ_lt_succ k.isLt), tripNext.sl.v62_r0 k.val) = carry (k.val + 2) := by decide
    exact key ⟨j, by omega⟩
  isplitl [HW]
  · iexists _; iexact HW
  ihave HD0 := (Entails.of_eq (pointsTo_congr (landed_eq c h0 v0 (X := X0) hg0 O0 hO0))) $$ HF0_dst
  ihave HD1 := (Entails.of_eq (pointsTo_congr (landed_eq c h1 v1 (X := X1) hg1 O1 hO1))) $$ HF1_dst
  isplitl [HC0 HF0 HF0_src HD0]
  · isplitl [HC0]
    · iexists (tripNext.sl.HS0_w1 c j f0 hc1)
      isplitr
      · ipureintro
        have h53 : tripNext.sl.v53_r0 j = w (j + 1) := BitVec.add_zero _
        unfold tripNext.sl.HS0_w1
        rw [h53, pay45_eq]
        exact (slot_read (F := F) v0 (off1_eq (j + 1)) _ _ (stored (w (j + 1))) shapeCasts_S512x200_S1x512x200).trans (stored_eq (j + 1))
      · iexact HC0
    isplitl [HF0_src]
    · iexists g0; iexact HF0_src
    isplitl [HF0]
    · iexact HF0
    · iexact HD0
  · isplitl [HC1]
    · iexists (tripNext.sl.HS1_w2 c j f1 hc2)
      isplitr
      · ipureintro
        exact slot_read (F := F) v1 (off2_eq (j + 1)) _ _ VAL1 shapeCasts_S512x200_S1x512x200
      · iexact HC1
    isplitl [HF1_src]
    · iexists g1; iexact HF1_src
    isplitl [HF1]
    · iexact HF1
    · iexact HD1

end Cert.Proof.KernelIdeal

end
-- ==== Proof.IdealLoop.lean ====
/- The loop: what is held before a trip, and that a trip passes it on. -/
module

public import proofs.«01_k».proof.Proof.IdealTrip
public import Idealize.ShloMosaic.Lib.Pipeline.ValueKit.Geometry

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section Held
variable {e : EltTy} (c : Dev nD) (h : Memref sig .tc .hbm S16384x200 e) (v : Memref sig .tc .vmem S2x512x200 e) (q : DmaSems sig S2)
  (y : ℕ → S512x200.Idx → Elt F e) (X O : Buf (Elt F) (h.view.loc (c : Thread nD τ)))

/-- Slot `s` free: the slot at anything, its semaphore at zero. -/
abbrev freeP (s : Fin 2) : sProp 𝕄 := iprop((∃ f, slotP c v s f) ∗ cellP c q s)

/-- One result before trip `k`: at the start every block as launched and both slots free; later the copy of the block
    before on its way, the other slot free, the blocks ahead as launched and the blocks behind at the final array. -/
def heldP : ℕ → sProp 𝕄
  | 0 => iprop(bigSep Finset.univ (blkP c h X) ∗ freeP c v q (Ring.sl 2 0) ∗ freeP c v q (Ring.sl 2 1))
  | j + 1 => iprop(flyP c h v q (Ring.sl 2 j) (Ring.bk 32 j) (y j) X ∗ freeP c v q (Ring.sl 2 (j + 1))
      ∗ bigSep (Ring.aheadSet (j + 1)) (blkP c h X) ∗ bigSep (Ring.behindSet 1 (j + 1)) (blkP c h O))

/-- Before the first trip, its block set apart. -/
theorem held_zero : heldP c h v q y X O 0
    = iprop((blkP c h X (Ring.bk 32 0) ∗ bigSep (Ring.aheadSet 1) (blkP c h X)) ∗ freeP c v q (Ring.sl 2 0) ∗ freeP c v q (Ring.sl 2 1)) := by
  have e0 : (Finset.univ : Finset (Fin 32)) = Ring.aheadSet 0 := Ring.aheadSet_zero.symm
  rw [heldP, e0, Ring.aheadSet_open 0 (by decide), bigSep_insert (Ring.bk_not_mem_aheadSet_succ 0 (by decide))]; rfl

/-- Before a later trip, its block set apart. -/
theorem held_succ (j : ℕ) (hj : j + 1 < 32) : heldP c h v q y X O (j + 1)
    = iprop(flyP c h v q (Ring.sl 2 j) (Ring.bk 32 j) (y j) X ∗ freeP c v q (Ring.sl 2 (j + 1))
      ∗ (blkP c h X (Ring.bk 32 (j + 1)) ∗ bigSep (Ring.aheadSet (j + 2)) (blkP c h X)) ∗ bigSep (Ring.behindSet 1 (j + 1)) (blkP c h O)) := by
  rw [heldP, Ring.aheadSet_open (j + 1) hj, bigSep_insert (Ring.bk_not_mem_aheadSet_succ (j + 1) hj)]; rfl

/-- After the first trip. -/
theorem held_one : heldP c h v q y X O 1
    = iprop(flyP c h v q (Ring.sl 2 0) (Ring.bk 32 0) (y 0) X ∗ freeP c v q (Ring.sl 2 1) ∗ bigSep (Ring.aheadSet 1) (blkP c h X) ∗ emp) := by
  have e : Ring.behindSet (NB := 32) 1 (0 + 1) = ∅ := Ring.behindSet_boot (d := 1) (0 + 1) (le_refl 1)
  rw [heldP, e, bigSep_empty]; rfl

/-- After a later trip: the block that landed joins those behind. -/
theorem held_next (j : ℕ) (hj : j + 1 < 32) : heldP c h v q y X O (j + 2)
    = iprop(flyP c h v q (Ring.sl 2 (j + 1)) (Ring.bk 32 (j + 1)) (y (j + 1)) X ∗ freeP c v q (Ring.sl 2 j)
      ∗ bigSep (Ring.aheadSet (j + 2)) (blkP c h X) ∗ blkP c h O (Ring.bk 32 j) ∗ bigSep (Ring.behindSet 1 (j + 1)) (blkP c h O)) := by
  have e2 : Ring.sl 2 (j + 1 + 1) = Ring.sl 2 j := Ring.sl2_succ_eq_pred (j + 1) (by omega)
  have e3 : Ring.behindSet (NB := 32) 1 (j + 1 + 1) = insert (Ring.bk 32 j) (Ring.behindSet 1 (j + 1)) :=
    Ring.behindSet_close (d := 1) (j + 1) (by omega) hj
  have e4 : Ring.bk 32 j ∉ Ring.behindSet (NB := 32) 1 (j + 1) := Ring.bk_not_mem_behindSet (d := 1) (j + 1) (by omega) hj
  rw [heldP, e2, e3, bigSep_insert e4]; rfl

end Held

variable (c : Dev nD) (X0 : Buf (Elt F) (h0.view.loc (c : Thread nD τ))) (X1 : Buf (Elt F) (h1.view.loc (c : Thread nD τ)))
/-- The first result: each element drawn at its flat index. -/
def OUT0 : Buf (Elt F) (h0.view.loc (c : Thread nD τ)) := fun (i : S16384x200.Idx) =>
  Words.drawn (BitVec.ofNat 32 ((i 0).val * 200 + (i 1).val))
/-- The second result: one value everywhere. -/
def OUT1 : Buf (Elt F) (h1.view.loc (c : Thread nD τ)) := fun (_ : S16384x200.Idx) => (Named.named κ "neg_log_items" 0xC15D0C55#32 : F .f32)

/-- A block of the first result is what its trip stored. -/
theorem read_OUT0 (j : ℕ) (hj : j < 32) : (hblk h0 (Ring.bk 32 j)).view.read (Elt F) (OUT0 c) = VAL0 j := by
  have hb : (Ring.bk 32 j).val = j := Ring.bk_val hj
  refine funext fun x => ?_
  show Words.drawn (BitVec.ofNat 32 ((((Rect.unit (s := S16384x200) (blkOff (Ring.bk 32 j)) S512x200.size (blkOff_inb _)).emb x) 0).val * 200
    + (((Rect.unit (s := S16384x200) (blkOff (Ring.bk 32 j)) S512x200.size (blkOff_inb _)).emb x) 1).val)) = _
  rw [ValueKit.rect_emb_unit_val, ValueKit.rect_emb_unit_val]
  show Words.drawn (BitVec.ofNat 32 ((512 * (Ring.bk 32 j).val + (x 0).val) * 200 + (0 + (x 1).val))) = _
  rw [hb, Nat.zero_add]; rfl
/-- So is a block of the second. -/
theorem read_OUT1 (j : ℕ) : (hblk h1 (Ring.bk 32 j)).view.read (Elt F) (OUT1 c) = VAL1 := rfl

/-- Both results before trip `k`. -/
def bothP (k : ℕ) : sProp 𝕄 :=
  iprop(heldP c h0 v0 q0 VAL0 X0 (OUT0 c) k ∗ heldP c h1 v1 q1 (fun _ => VAL1) X1 (OUT1 c) k)

/-- A trip passes on what is held. -/
theorem tripStep (k : ℕ) (hk : k < 32) (h0k : k < k0_t1_loop.trips) :
    iprop((∃ W, owes (c : Thread nD τ) 0 W) ∗ bothP c X0 X1 k)
      ⊢ wp Idealize.ShloMosaic.frame (wpE (defs₀ (F := F)) 𝒱₀ (c : Thread nD τ) none) Set.univ (tripG ⟨k, h0k⟩ (carry k))
        (fun r => iprop(⌜r = carry (k + 1)⌝ ∗ (∃ W, owes (c : Thread nD τ) 0 W) ∗ bothP c X0 X1 (k + 1))) := by
  have hw : wrap k = w k := by rw [wrap, Nat.mod_eq_of_lt hk]
  unfold bothP
  rcases k with _ | j
  · rw [held_zero, held_zero, held_one, held_one]
    have hcar : carry 0 = (w 0, w (0 - 1), w 0, w (0 - 1), w 0) := rfl
    rw [hcar]
    iintro ⟨HW, ⟨⟨HB0, HA0⟩, ⟨⟨%f0, HS0⟩, HC0⟩, HN0⟩, ⟨⟨HB1, HA1⟩, ⟨⟨%f1, HS1⟩, HC1⟩, HN1⟩⟩
    iapply (wp_wand_r Idealize.ShloMosaic.frame (wpE (defs₀ (F := F)) 𝒱₀ (c : Thread nD τ) none) Set.univ)
    isplitl [HW HB0 HS0 HC0 HB1 HS1 HC1]
    · iapply (tripFirst c X0 X1 0 hk h0k rfl f0 f1)
      isplitl [HW]; · iexact HW
      isplitl [HB0]; · iexact HB0
      isplitl [HS0]; · iexact HS0
      isplitl [HC0]; · iexact HC0
      isplitl [HB1]; · iexact HB1
      isplitl [HS1]; · iexact HS1
      iexact HC1
    · iintro %r ⟨%hr, HW, HF0, HF1⟩
      isplitr; · ipureintro; exact hr
      isplitl [HW]; · iexact HW
      isplitl [HF0 HN0 HA0]
      · isplitl [HF0]; · iexact HF0
        isplitl [HN0]; · iexact HN0
        isplitl [HA0]; · iexact HA0
        iempintro
      · isplitl [HF1]; · iexact HF1
        isplitl [HN1]; · iexact HN1
        isplitl [HA1]; · iexact HA1
        iempintro
  · rw [held_succ _ _ _ _ _ _ _ j hk, held_succ _ _ _ _ _ _ _ j hk, held_next _ _ _ _ _ _ _ j hk, held_next _ _ _ _ _ _ _ j hk]
    have hcar : carry (j + 1) = (w (j + 1), w j, w (j + 1), w j, w (j + 1)) := by rw [carry, hw]; rfl
    rw [hcar]
    iintro ⟨HW, ⟨HF0, ⟨⟨%f0, HS0⟩, HC0⟩, ⟨HB0, HA0⟩, HP0⟩, ⟨HF1, ⟨⟨%f1, HS1⟩, HC1⟩, ⟨HB1, HA1⟩, HP1⟩⟩
    iapply (wp_wand_r Idealize.ShloMosaic.frame (wpE (defs₀ (F := F)) 𝒱₀ (c : Thread nD τ) none) Set.univ)
    isplitl [HW HB0 HS0 HC0 HB1 HS1 HC1 HF0 HF1]
    · iapply (tripNext c X0 X1 j hk h0k f0 f1 (OUT0 c) (OUT1 c) (read_OUT0 c j (by omega)) (read_OUT1 c j))
      isplitl [HW]; · iexact HW
      isplitl [HB0]; · iexact HB0
      isplitl [HS0]; · iexact HS0
      isplitl [HC0]; · iexact HC0
      isplitl [HB1]; · iexact HB1
      isplitl [HS1]; · iexact HS1
      isplitl [HC1]; · iexact HC1
      isplitl [HF0]; · iexact HF0
      iexact HF1
    · iintro %r ⟨%hr, HW, ⟨HF0, HS0, HC0, HB0⟩, ⟨HF1, HS1, HC1, HB1⟩⟩
      isplitr; · ipureintro; exact hr
      isplitl [HW]; · iexact HW
      isplitl [HF0 HS0 HC0 HA0 HB0 HP0]
      · isplitl [HF0]; · iexact HF0
        isplitl [HS0 HC0]
        · isplitl [HS0]; · iexact HS0
          iexact HC0
        isplitl [HA0]; · iexact HA0
        isplitl [HB0]; · iexact HB0
        iexact HP0
      · isplitl [HF1]; · iexact HF1
        isplitl [HS1 HC1]
        · isplitl [HS1]; · iexact HS1
          iexact HC1
        isplitl [HA1]; · iexact HA1
        isplitl [HB1]; · iexact HB1
        iexact HP1

/-- The loop's invariant. -/
abbrev invP (k : ℕ) (acc : BitVec 32 × BitVec 32 × BitVec 32 × BitVec 32 × BitVec 32) : sProp 𝕄 :=
  iprop(⌜acc = carry k⌝ ∗ (∃ W, owes (c : Thread nD τ) 0 W) ∗ bothP c X0 X1 k)

/-- One trip keeps it. -/
theorem invStep (k : Fin k0_t1_loop.trips) (acc : BitVec 32 × BitVec 32 × BitVec 32 × BitVec 32 × BitVec 32) :
    invP c X0 X1 k.val acc ⊢ wp Idealize.ShloMosaic.frame (wpE (defs₀ (F := F)) 𝒱₀ (c : Thread nD τ) none) Set.univ (tripG k acc) (invP c X0 X1 (k.val + 1)) := by
  iintro ⟨%hacc, H⟩
  subst hacc
  iapply (tripStep c X0 X1 k.val (Nat.lt_of_lt_of_eq k.isLt trips_eq) k.isLt)
  iexact H

/-- After the last trip: the last block's copy on its way, every other block behind. -/
theorem both_end : bothP c X0 X1 (31 + 1)
    ⊢ iprop((flyP c h0 v0 q0 (Ring.sl 2 31) (Ring.bk 32 31) (VAL0 31) X0 ∗ freeP c v0 q0 (Ring.sl 2 0) ∗ bigSep (Ring.behindSet 1 32) (blkP c h0 (OUT0 c)))
      ∗ (flyP c h1 v1 q1 (Ring.sl 2 31) (Ring.bk 32 31) VAL1 X1 ∗ freeP c v1 q1 (Ring.sl 2 0) ∗ bigSep (Ring.behindSet 1 32) (blkP c h1 (OUT1 c)))) := by
  have e : Ring.aheadSet (NB := 32) (31 + 1) = ∅ := Ring.aheadSet_end 32 (le_refl 32)
  have e2 : Ring.sl 2 (31 + 1) = Ring.sl 2 0 := by decide
  rw [bothP, heldP, heldP, e2]
  iintro ⟨⟨HF0, HN0, -, HP0⟩, ⟨HF1, HN1, -, HP1⟩⟩
  isplitl [HF0 HN0 HP0]
  · isplitl [HF0]; · iexact HF0
    isplitl [HN0]; · iexact HN0
    iexact HP0
  · isplitl [HF1]; · iexact HF1
    isplitl [HN1]; · iexact HN1
    iexact HP1

/-- The last block joins those behind. -/
theorem all_behind {e : EltTy} (h : Memref sig .tc .hbm S16384x200 e) (O : Buf (Elt F) (h.view.loc (c : Thread nD τ))) :
    bigSep Finset.univ (blkP c h O) = iprop(blkP c h O (Ring.bk 32 31) ∗ bigSep (Ring.behindSet 1 32) (blkP c h O)) := by
  have e : (Finset.univ : Finset (Fin 32)) = insert (Ring.bk 32 31) (Ring.behindSet 1 32) := by decide
  rw [e, bigSep_insert (by decide)]; rfl

/-- The program the launch runs. -/
abbrev bodyG : Prog (TpuEff nD τ sig (Elt F) Λ₀ .tc) PUnit :=
  cc0__pipelined h0 (Memref.isWhole_whole _) h1 (Memref.isWhole_whole _) v0 (Memref.isWhole_whole _) q0 v1 (Memref.isWhole_whole _) q1

/-- Both results' blocks at given arrays, every slot free. -/
def restP (Y0 : Buf (Elt F) (h0.view.loc (c : Thread nD τ))) (Y1 : Buf (Elt F) (h1.view.loc (c : Thread nD τ))) : sProp 𝕄 :=
  iprop((bigSep Finset.univ (blkP c h0 Y0) ∗ freeP c v0 q0 (Ring.sl 2 0) ∗ freeP c v0 q0 (Ring.sl 2 1))
    ∗ (bigSep Finset.univ (blkP c h1 Y1) ∗ freeP c v1 q1 (Ring.sl 2 0) ∗ freeP c v1 q1 (Ring.sl 2 1)))

/-- The whole body: from both results as launched to both results written. -/
theorem bodyRun (W) (Q : PUnit → sProp 𝕄) :
    iprop((restP c X0 X1 ∗ owes (c : Thread nD τ) 0 W) ∗ ((restP c (OUT0 c) (OUT1 c) ∗ ∃ W, owes (c : Thread nD τ) 0 W) -∗ Q ⟨⟩))
      ⊢ wp Idealize.ShloMosaic.frame (wpE (defs₀ (F := F)) 𝒱₀ (c : Thread nD τ) none) Set.univ bodyG Q := by
  iintro ⟨⟨HR, HW⟩, Hk⟩
  ihave HB := (Entails.of_eq (show restP c X0 X1 = bothP c X0 X1 0 from rfl)) $$ HR
  have hc6 : k0_chk6 (w 31) := chk6_of 31
  have hc5 : k0_chk5 (wrap 32) := chk5_of
  have hc4 : k0_chk4 (w 31) := chk4_of 31
  sl_exec
  iapply (Scf.wp_for_bind Idealize.ShloMosaic.frame (wpE (defs₀ (F := F)) 𝒱₀ (c : Thread nD τ) none) Set.univ _ _ _ _ _ _ (invP c X0 X1) (invStep c X0 X1)) $$ [HW HB]
  · isplitr; · ipureintro; rfl
    isplitl [HW]; · iexists W; iexact HW
    iexact HB
  iintro %acc ⟨%hacc, ⟨%W', HW⟩, HB⟩
  have hacc' : acc = (w 32, w 31, w 32, w 31, wrap 32) := by
    refine hacc.trans ?_
    show carry k0_t1_loop.trips = _
    rw [trips_eq]; rfl
  subst hacc'
  have e32 : (Scf.trips k0_t1_loop.lb k0_t1_loop.ub k0_t1_loop.st) = 31 + 1 := trips_eq
  ihave HB' := ((Entails.of_eq (congrArg (bothP c X0 X1) e32)).trans (both_end c X0 X1)) $$ HB
  icases HB' with ⟨⟨⟨%g0, %hg0, HF0⟩, HN0, HP0⟩, ⟨⟨%g1, %hg1, HF1⟩, HN1, HP1⟩⟩
  sl_exec
  sl_step
  have e1 : Ring.sl 2 31 = Ring.sl 2 1 := by decide
  ihave HD0 := (Entails.of_eq (pointsTo_congr (landed_eq c h0 v0 (X := X0) hg0 (OUT0 c) (read_OUT0 c 31 (by decide))))) $$ HF0_dst
  ihave HD1 := (Entails.of_eq (pointsTo_congr (landed_eq c h1 v1 (X := X1) hg1 (OUT1 c) (read_OUT1 c 31)))) $$ HF1_dst
  iapply Hk
  isplitr [HW]
  · unfold restP
    rw [all_behind, all_behind, ← e1]
    isplitl [HN0 HP0 HD0 HF0_src HF0]
    · isplitl [HD0 HP0]
      · isplitl [HD0]; · iexact HD0
        iexact HP0
      isplitl [HN0]; · iexact HN0
      isplitl [HF0_src]; · iexists g0; iexact HF0_src
      iexact HF0
    · isplitl [HD1 HP1]
      · isplitl [HD1]; · iexact HD1
        iexact HP1
      isplitl [HN1]; · iexact HN1
      isplitl [HF1_src]; · iexists g1; iexact HF1_src
      iexact HF1
  · iexists _; iexact HW

end Cert.Proof.KernelIdeal

end
-- ==== Proof.IdealLaunch.lean ====
/- The kernel's launch: every run ends with both results written, the arguments as given and no semaphore held. -/
module

public import proofs.«01_k».proof.Proof.IdealLoop
public import proofs.«01_k».proof.Proof.Gen.KernelIdeal.Frame

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Named F]
local notation "𝕄" => MT nD τ sig Unit (Elt F) ℕ (UU nD τ) ℕ

/-! ## The four semaphores -/

/-- The slots' semaphores: the first result's two, then the second's. -/
abbrev osem : Fin 4 → SemLoc sig
  | 0 => .dma (csm q0 0).sem
  | 1 => .dma (csm q0 1).sem
  | 2 => .dma (csm q1 0).sem
  | 3 => .dma (csm q1 1).sem
/-- The four semaphores are the call's own. -/
theorem ownSemFacts : Pipeline.OwnSemFacts cfg0.spec osem := by decide

/-- They are the two slots' of each staging buffer. -/
theorem ownSems0_eq (c : Dev nD) : (Pipeline.ownSems0 (Ix := Unit) (Name := ℕ) (U := UU nD τ) (Lvl := ℕ) (Val := Elt F) (τ := τ) osem c : sProp 𝕄)
    = iprop(cellP c q0 0 ∗ cellP c q0 1 ∗ cellP c q1 0 ∗ cellP c q1 1) := by
  unfold Pipeline.ownSems0
  exact bigSep_univ_eq_bigSepL [(0 : Fin 4), 1, 2, 3] (by decide) (by decide) _

/-! ## A result's thirty-two blocks, a staging buffer's two slots -/

abbrev rowSet (b : Fin 32) : Finset S16384x200.Idx := (Rect.unit (s := S16384x200) (blkOff b) S512x200.size (blkOff_inb b)).set
abbrev slotSet (s : Fin 2) : Finset S2x512x200.Idx := (Rect.unit (s := S2x512x200) (slotOff s) S1x512x200.size (slotOff_inb s)).set

/-- Block `b` has the rows `512 b … 512 b + 511`. -/
theorem mem_rowSet (b : Fin 32) (y : S16384x200.Idx) : y ∈ rowSet b ↔ (y 0).val / 512 = b.val := by
  rw [Rect.mem_set_unit]
  have h1 : (y 1).val < 200 := (y 1).isLt
  constructor
  · intro H
    have a0 : 512 * b.val ≤ (y 0).val ∧ (y 0).val < 512 * b.val + 512 := H 0
    omega
  · intro H a
    fin_cases a
    · show 512 * b.val ≤ (y 0).val ∧ (y 0).val < 512 * b.val + 512
      omega
    · show 0 ≤ (y 1).val ∧ (y 1).val < 0 + 200
      omega
/-- Slot `s` has the first coordinate `s`. -/
theorem mem_slotSet (s : Fin 2) (y : S2x512x200.Idx) : y ∈ slotSet s ↔ (y 0).val = s.val := by
  rw [Rect.mem_set_unit]
  have h1 : (y 1).val < 512 := (y 1).isLt
  have h2 : (y 2).val < 200 := (y 2).isLt
  constructor
  · intro H
    have a0 : s.val ≤ (y 0).val ∧ (y 0).val < s.val + 1 := H 0
    omega
  · intro H a
    fin_cases a
    · show s.val ≤ (y 0).val ∧ (y 0).val < s.val + 1
      omega
    · show 0 ≤ (y 1).val ∧ (y 1).val < 0 + 512
      omega
    · show 0 ≤ (y 2).val ∧ (y 2).val < 0 + 200
      omega

/-- Two blocks have no element in common. -/
theorem rowSet_disjoint : ∀ b b' : Fin 32, b ≠ b' → Disjoint (rowSet b) (rowSet b') := fun b b' hne =>
  Finset.disjoint_left.mpr fun y hy hy' => hne (Fin.ext (((mem_rowSet b y).mp hy).symm.trans ((mem_rowSet b' y).mp hy')))
/-- The blocks are the whole result. -/
theorem rowSet_cover : (Finset.univ : Finset (Fin 32)).biUnion rowSet = Finset.univ := by
  ext y
  simp only [Finset.mem_biUnion, Finset.mem_univ, true_and, iff_true]
  have h : (y 0).val < 16384 := (y 0).isLt
  exact ⟨⟨(y 0).val / 512, by omega⟩, (mem_rowSet _ y).mpr rfl⟩
/-- Two slots have no element in common. -/
theorem slotSet_disjoint : ∀ s s' : Fin 2, s ≠ s' → Disjoint (slotSet s) (slotSet s') := fun s s' hne =>
  Finset.disjoint_left.mpr fun y hy hy' => hne (Fin.ext (((mem_slotSet s y).mp hy).symm.trans ((mem_slotSet s' y).mp hy')))
/-- The slots are the whole staging buffer. -/
theorem slotSet_cover : (Finset.univ : Finset (Fin 2)).biUnion slotSet = Finset.univ := by
  ext y
  simp only [Finset.mem_biUnion, Finset.mem_univ, true_and, iff_true]
  have h : (y 0).val < 2 := (y 0).isLt
  exact ⟨⟨(y 0).val, h⟩, (mem_slotSet _ y).mpr rfl⟩

variable (c : Dev nD)

/-- The elements of a block of the first result. -/
theorem blk_set0 (b : Fin 32) : (hblk h0 b).view.set = rowSet b := View.set_slice_whole _ _
/-- The elements of a block of the second result. -/
theorem blk_set1 (b : Fin 32) : (hblk h1 b).view.set = rowSet b := View.set_slice_whole _ _
/-- The elements of a slot of the first staging buffer. -/
theorem slot_set0 (s : Fin 2) : (rslot v0 s).view.set = slotSet s := (View.set_reshape _ _).trans (View.set_slice_whole _ _)
/-- The elements of a slot of the second staging buffer. -/
theorem slot_set1 (s : Fin 2) : (rslot v1 s).view.set = slotSet s := (View.set_reshape _ _).trans (View.set_slice_whole _ _)

/-- The first result whole is its blocks. -/
theorem result0_eq (f : Buf (Elt F) ((c : Thread nD τ).loc main_v0_0)) :
    (((c : Thread nD τ).loc main_v0_0) ↦{fullShare} f : sProp 𝕄) = bigSep Finset.univ (blkP c h0 f) := by
  rw [Ring.pointsTo_blocks (ℓ := (c : Thread nD τ).loc main_v0_0) rowSet rowSet_disjoint rowSet_cover]
  exact bigSep_congr fun b _ => by rw [← blk_set0]; rfl
/-- The second result whole is its blocks. -/
theorem result1_eq (f : Buf (Elt F) ((c : Thread nD τ).loc main_v0_1)) :
    (((c : Thread nD τ).loc main_v0_1) ↦{fullShare} f : sProp 𝕄) = bigSep Finset.univ (blkP c h1 f) := by
  rw [Ring.pointsTo_blocks (ℓ := (c : Thread nD τ).loc main_v0_1) rowSet rowSet_disjoint rowSet_cover]
  exact bigSep_congr fun b _ => by rw [← blk_set1]; rfl

/-- Holding a slot of the first staging buffer is holding those elements. -/
theorem slot_eq0 (s : Fin 2) (f) : slotP c v0 s f = (((c : Thread nD τ).loc cc0_scoped0) ↦[slotSet s]{fullShare} f : sProp 𝕄) :=
  congrArg (fun S => (_ ↦[S]{fullShare} f : sProp 𝕄)) (slot_set0 s)
/-- Holding a slot of the second staging buffer is holding those elements. -/
theorem slot_eq1 (s : Fin 2) (f) : slotP c v1 s f = (((c : Thread nD τ).loc cc0_scoped2) ↦[slotSet s]{fullShare} f : sProp 𝕄) :=
  congrArg (fun S => (_ ↦[S]{fullShare} f : sProp 𝕄)) (slot_set1 s)

/-- A product over two slots. -/
theorem two_eq (Φ : Fin 2 → sProp 𝕄) : bigSep Finset.univ Φ = iprop(Φ 0 ∗ Φ 1) :=
  bigSep_univ_eq_bigSepL [(0 : Fin 2), 1] (by decide) (by decide) Φ

/-- A staging buffer whole gives its two slots. -/
theorem split0 : iprop(∃ f : Buf (Elt F) ((c : Thread nD τ).loc cc0_scoped0), ((c : Thread nD τ).loc cc0_scoped0) ↦{fullShare} f)
    ⊢ (iprop((∃ f, slotP c v0 0 f) ∗ ∃ f, slotP c v0 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped0) slotSet slotSet_disjoint slotSet_cover f).trans (two_eq _))) $$ H
  icases H2 with ⟨H0, H1⟩
  isplitl [H0]
  · iexists f; iapply (Entails.of_eq (slot_eq0 c 0 f).symm); iexact H0
  · iexists f; iapply (Entails.of_eq (slot_eq0 c 1 f).symm); iexact H1
/-- So does the second staging buffer. -/
theorem split1 : iprop(∃ f : Buf (Elt F) ((c : Thread nD τ).loc cc0_scoped2), ((c : Thread nD τ).loc cc0_scoped2) ↦{fullShare} f)
    ⊢ (iprop((∃ f, slotP c v1 0 f) ∗ ∃ f, slotP c v1 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped2) slotSet slotSet_disjoint slotSet_cover f).trans (two_eq _))) $$ H
  icases H2 with ⟨H0, H1⟩
  isplitl [H0]
  · iexists f; iapply (Entails.of_eq (slot_eq1 c 0 f).symm); iexact H0
  · iexists f; iapply (Entails.of_eq (slot_eq1 c 1 f).symm); iexact H1
/-- Its two slots give it back. -/
theorem join0 : iprop((∃ f, slotP c v0 0 f) ∗ ∃ f, slotP c v0 1 f)
    ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) slotSet slotSet_disjoint slotSet_cover f0)
  irw [two_eq]
  isplitl [H0]
  · iexists f0; iapply (Entails.of_eq (slot_eq0 c 0 f0)); iexact H0
  · iexists f1; iapply (Entails.of_eq (slot_eq0 c 1 f1)); iexact H1
/-- So do the second buffer's. -/
theorem join1 : iprop((∃ f, slotP c v1 0 f) ∗ ∃ f, slotP c v1 1 f)
    ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) slotSet slotSet_disjoint slotSet_cover f0)
  irw [two_eq]
  isplitl [H0]
  · iexists f0; iapply (Entails.of_eq (slot_eq1 c 0 f0)); iexact H0
  · iexists f1; iapply (Entails.of_eq (slot_eq1 c 1 f1)); iexact H1

/-! ## The pipeline's data and its one point -/

variable (m : (ℓ : Loc nD τ sig) → Buf (Elt F) ℓ) (ρ : Dev nD → PrngReg)

/-- The arguments, kept aside. -/
abbrev argsP (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))

/-- Before the one point the results are as launched, after it they are written. -/
def ΦP (c : Dev nD) (k : ℕ) : sProp 𝕄 :=
  if k = 0 then iprop(argsP m c ∗ restP c (m ((c : Thread nD τ).loc main_v0_0)) (m ((c : Thread nD τ).loc main_v0_1)))
  else iprop(argsP m c ∗ restP c (OUT0 c) (OUT1 c))

def dats (_ : Fin 1) (c : Dev nD) : Dat τ (Elt F) Unit ℕ (UU nD τ) ℕ cfg0 c where
  A w := w.elim0
  after w _ := w.elim0
  Φ t := ΦP m c t.val
  q _ := fullShare
  owed _ := 0

/-- The body at a point is the kernel's. -/
theorem prog_eq (t : Fin cfg0.N) : (defs₀ (F := F)) .tc cfg0.body (cfg0.bodyArgs t (cfg0.slots t)) = bodyG := rfl

/-- The call has no windows. -/
theorem no_windows (Φ : Fin cfg0.W → sProp 𝕄) : bigSep Finset.univ Φ = iprop(emp) := by
  rw [show (Finset.univ : Finset (Fin cfg0.W)) = ∅ from rfl, bigSep_empty]; rfl

set_option backward.isDefEq.respectTransparency.types false in
/-- The body at the one point. -/
theorem body_obligation (c : Dev nD) : BodyObligation (dats (F := F) m 0 c) (defs₀ (F := F)) 𝒱₀ () Set.univ := fun t => by
  rw [no_windows, no_windows]
  have ht : t.val = 0 := congrArg Fin.val (fin_N0 t)
  rw [show (dats m 0 c).Φ t.castSucc = ΦP m c t.val from rfl, show (dats m 0 c).Φ t.succ = ΦP m c (t.val + 1) from rfl, ht]
  unfold Dat.owesAt Pipeline.owesWithin
  rw [show (dats m 0 c).owed t.castSucc = 0 from rfl, show (dats m 0 c).owed t.succ = 0 from rfl]
  unfold ΦP
  rw [if_pos rfl, if_neg (Nat.succ_ne_zero 0)]
  iintro ⟨⟨HA, HR⟩, ⟨%W, -, HW⟩, HZ⟩
  sl_rw [prog_eq t]
  iapply (bodyRun c _ _ W)
  isplitl [HR HW]
  · isplitl [HR]; · iexact HR
    iexact HW
  · iintro ⟨HR, ⟨%W', HW⟩⟩
    isplitl [HA HR]
    · isplitl [HA]; · iexact HA
      iexact HR
    isplitl [HW]
    · iexists W'; isplitr; · ipureintro; exact fun _ _ => Or.inl trivial
      iexact HW
    iexact HZ

/-! ## The run -/

/-- What the region is entered with beside its own buffers: the four arrays and the four semaphores. -/
def intoP (c : Dev nD) : sProp 𝕄 :=
  iprop((argsP m c ∗ bigSep Finset.univ (blkP c h0 (m ((c : Thread nD τ).loc main_v0_0))) ∗ bigSep Finset.univ (blkP c h1 (m ((c : Thread nD τ).loc main_v0_1))))
    ∗ Pipeline.ownSems0 osem c)
/-- What it leaves: the arguments as given, the results written. -/
def outOfP (c : Dev nD) : sProp 𝕄 :=
  iprop(argsP m c ∗ (((c : Thread nD τ).loc main_v0_0) ↦{fullShare} OUT0 c) ∗ (((c : Thread nD τ).loc main_v0_1) ↦{fullShare} OUT1 c))
def u₀ : UU nD τ := (initOf (Pipeline.cells cfgs cellOf_inj) (Pipeline.launchToks cfgs cellOf_inj), 1)

/-- A core's arrays at the end. -/
def QY (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v0_0) = OUT0 c
    ∧ s.mem ((c : Thread nD τ).loc main_v0_1) = OUT1 c

/-- Every core's arrays at the end. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
/-- From any memory with no semaphore held every execution ends, with the results written, the arguments as given and no
    semaphore held. -/
theorem run_raw : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := Pipeline.hmain_region cfgs 0 defs₀ 𝒱₀ m main fun c => (main_chain c).trans rfl)
    (hA := fun _ w => w.elim0)
    (X := intoP m) (Y := outOfP m) (Z := fun _ => iprop(emp))
    (hX := fun c => by
      rw [unscopedRest0_eq, result0_eq, result1_eq]
      unfold intoP
      iintro ⟨⟨HA0, HA1, H0, H1⟩, HS, -, -, -⟩; imodintro
      isplitl [HA0 HA1 H0 H1 HS]
      · isplitr [HS]
        · isplitl [HA0 HA1]
          · isplitl [HA0]; · iexact HA0
            iexact HA1
          isplitl [H0]; · iexact H0
          iexact H1
        iexact HS
      iempintro)
    (hin := fun c => by
      rw [scopedRest0_eq, show (dats m 0 c).Φ 0 = ΦP m c 0 from rfl]
      unfold intoP ΦP; rw [ownSems0_eq, if_pos rfl]
      unfold restP
      iintro ⟨⟨⟨HA, H0, H1⟩, Hc00, Hc01, Hc10, Hc11⟩, Hb0, Hb1⟩
      ihave Hs0 := (split0 c) $$ Hb0
      ihave Hs1 := (split1 c) $$ Hb1
      icases Hs0 with ⟨Hs00, Hs01⟩
      icases Hs1 with ⟨Hs10, Hs11⟩
      isplitl [HA]; · iexact HA
      isplitl [H0 Hs00 Hs01 Hc00 Hc01]
      · isplitl [H0]; · iexact H0
        isplitl [Hs00 Hc00]
        · isplitl [Hs00]; · iexact Hs00
          iexact Hc00
        isplitl [Hs01]; · iexact Hs01
        iexact Hc01
      · isplitl [H1]; · iexact H1
        isplitl [Hs10 Hc10]
        · isplitl [Hs10]; · iexact Hs10
          iexact Hc10
        isplitl [Hs11]; · iexact Hs11
        iexact Hc11)
    (hout := fun c => by
      rw [scopedRest0_eq, show (dats m 0 c).Φ (Fin.last cfg0.N) = ΦP m c 1 from rfl, ownSems0_eq]
      unfold outOfP ΦP
      rw [if_neg (Nat.succ_ne_zero 0), result0_eq, result1_eq]
      unfold restP
      iintro ⟨HA, ⟨H0, ⟨Hs00, Hc00⟩, ⟨Hs01, Hc01⟩⟩, ⟨H1, ⟨Hs10, Hc10⟩, ⟨Hs11, Hc11⟩⟩⟩
      isplitl [HA H0 H1]
      · isplitl [HA]; · iexact HA
        isplitl [H0]; · iexact H0
        iexact H1
      isplitl [Hc00 Hc01 Hc10 Hc11]
      · isplitl [Hc00]; · iexact Hc00
        isplitl [Hc01]; · iexact Hc01
        isplitl [Hc10]; · iexact Hc10
        iexact Hc11
      isplitl [Hs00 Hs01]
      · iapply (join0 c)
        isplitl [Hs00]; · iexact Hs00
        iexact Hs01
      · iapply (join1 c)
        isplitl [Hs10]; · iexact Hs10
        iexact Hs11)
    (QY := QY m)
    (hY := fun c s' => by
      unfold outOfP
      iintro ⟨⟨⟨HA0, HA1⟩, H0, H1⟩, -, HSI⟩
      icombine HSI HA0 gives %ha0
      icombine HSI HA1 gives %ha1
      icombine HSI H0 gives %h0
      icombine HSI H1 gives %h1
      imodintro
      isplitr
      · ipureintro
        exact ⟨Buf.eq_of_forall_mem_univ ha0, Buf.eq_of_forall_mem_univ ha1, Buf.eq_of_forall_mem_univ h0, Buf.eq_of_forall_mem_univ h1⟩
      iexact HSI)
    (hQ := fun _ hh hz => ⟨hh, hz⟩)

/-- Every execution ends with the arguments as given, the drawn numbers and the constant in the results, and no semaphore held. -/
theorem run_main : θ_run defs (onTc (τ := τ) (main (F := F))) ⟨m, fun _ => 0, ρ⟩ (fun r => (∀ c : Dev nD, QY m c r.2) ∧ r.2.sem = fun _ => 0) :=
  (θ_run defs _ _).mono (fun _ h => ⟨fun c => (h.1 c).2, h.2⟩) (run_raw m ρ)

/-- The frame: every execution ends with the arguments as given and no semaphore held. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_main m ρ)

end Cert.Proof.KernelIdeal

end
-- ==== Proof.RefLine.lean ====
/- A straight line of host operations in which every buffer is written once and only earlier buffers are read: after it
   has run, every operation's equation between its result and its operands holds of the final contents. -/
module

public import Idealize.ShloMosaic.Lib.StableHlo
public import Idealize.ShloMosaic.Lib.StableHlo.Run
public import Idealize.ShloMosaic.Lib.Quiescent
public import Idealize.ShloMosaic.PureOps

@[expose] public section

noncomputable section

namespace Cert.Proof.Line

open Idealize.ShloMosaic Idealize.SL.Sem
open Idealize.ShloMosaic.StableHlo (TRef seq after tcRefs)

variable {τ : Topo} {sig : RefSig} {Val : EltTy → Type}

/-- What the buffers hold, read at a value's own type. -/
def get {T : BufTy} (W : Valuation τ sig Val) (t : TRef sig T) : T.Contents Val := t.ofBuf (W (Proc.devRef .tc t.ref))

variable (sig Val) in
/-- One operation of the line, by its operands, its result and its function. -/
inductive Node where
  | nullary {Ty : BufTy} (y : TRef sig Ty) (v : Ty.Contents Val)
  | unary {Tx Ty : BufTy} (x : TRef sig Tx) (y : TRef sig Ty) (f : Tx.Contents Val → Ty.Contents Val)
  | binary {Ta Tb Ty : BufTy} (a : TRef sig Ta) (b : TRef sig Tb) (y : TRef sig Ty) (f : Ta.Contents Val → Tb.Contents Val → Ty.Contents Val)
  | ternary {Tc Ta Tb Ty : BufTy} (c : TRef sig Tc) (a : TRef sig Ta) (b : TRef sig Tb) (y : TRef sig Ty)
      (f : Tc.Contents Val → Ta.Contents Val → Tb.Contents Val → Ty.Contents Val)
  | reshape {s s' : Shape} {e : EltTy} (x : TRef sig ⟨s, e⟩) (y : TRef sig ⟨s', e⟩) (hn : s.ShapeCasts s')

namespace Node

/-- The operation itself. -/
def op : Node sig Val → HloOp τ sig Val
  | nullary y v => TRef.nullary y v
  | unary x y f => TRef.unary x y f
  | binary a b y f => TRef.binary a b y f
  | ternary c a b y f => TRef.ternary c a b y f
  | reshape x y hn => TRef.reshape x y rfl hn

/-- The buffer it writes. -/
def out : Node sig Val → Ref sig .tc
  | nullary y _ => y.ref
  | unary _ y _ => y.ref
  | binary _ _ y _ => y.ref
  | ternary _ _ _ y _ => y.ref
  | reshape _ y _ => y.ref

/-- The buffers it reads. -/
def reads : Node sig Val → List (Ref sig .tc)
  | nullary _ _ => []
  | unary x _ _ => [x.ref]
  | binary a b _ _ => [a.ref, b.ref]
  | ternary c a b _ _ => [c.ref, a.ref, b.ref]
  | reshape x _ _ => [x.ref]

/-- Its equation, of the contents `W`. -/
def eqn (W : Valuation τ sig Val) : Node sig Val → Prop
  | nullary y v => get W y = v
  | unary x y f => get W y = f (get W x)
  | binary a b y f => get W y = f (get W a) (get W b)
  | ternary c a b y f => get W y = f (get W c) (get W a) (get W b)
  | @reshape _ _ s s' e x y hn => get W y = shapeCast s' (get W x) hn

/-- An operation writes the buffer of its result. -/
theorem writes_op (n : Node sig Val) : (n.op (τ := τ)).writes = {Proc.devRef .tc n.out} := by cases n <;> rfl

/-- An operation takes no fresh buffer. -/
theorem fresh_op (n : Node sig Val) : (n.op (τ := τ)).fresh = ∅ := by cases n <;> rfl

/-- An operation names buffers of the core alone. -/
theorem bufs_op (n : Node sig Val) : (n.op (τ := τ)).bufs ⊆ tcRefs τ sig := by
  have h : ∀ r : Ref sig .tc, Proc.devRef (τ := τ) .tc r ∈ tcRefs τ sig := StableHlo.devRef_mem_tcRefs
  cases n with
  | nullary y v => exact Finset.singleton_subset_iff.2 (h _)
  | unary x y f => exact Finset.insert_subset (h _) (Finset.singleton_subset_iff.2 (h _))
  | binary a b y f => exact Finset.insert_subset (h _) (Finset.insert_subset (h _) (Finset.singleton_subset_iff.2 (h _)))
  | ternary c a b y f =>
    exact Finset.insert_subset (h _) (Finset.insert_subset (h _) (Finset.insert_subset (h _) (Finset.singleton_subset_iff.2 (h _))))
  | reshape x y hn => exact Finset.insert_subset (h _) (Finset.singleton_subset_iff.2 (h _))

end Node

/-- A reshape between buffers whose types are those of the values, read at the values' types. -/
theorem cast_reshape {s s' : Shape} {e : EltTy} {A B : BufTy} (hA : A = ⟨s, e⟩) (hB : B = ⟨s', e⟩) (he : A.elt = B.elt)
    (hn : A.shape.ShapeCasts B.shape) (hn' : s.ShapeCasts s') (u : A.Contents Val) :
    cast (congrArg (fun U : BufTy => U.Contents Val) hB) (fun i => he ▸ shapeCast B.shape u hn i)
      = shapeCast s' (cast (congrArg (fun U : BufTy => U.Contents Val) hA) u) hn' := by
  subst hA hB; rfl

/-- An operation's equation holds of contents that have its result and agree with what it read. -/
theorem Node.eqn_of (n : Node sig Val) (V W : Valuation τ sig Val)
    (hr : ∀ r ∈ n.reads, W (Proc.devRef .tc r) = V (Proc.devRef .tc r))
    (hy : W (Proc.devRef .tc n.out) = n.op.result V (Proc.devRef .tc n.out)) : n.eqn W := by
  cases n with
  | nullary y v =>
    have hy : W (Proc.devRef .tc y.ref) = (TRef.nullary y v).result V (Proc.devRef .tc y.ref) := hy
    rw [StableHlo.nullary_result'] at hy
    simp only [eqn, get, hy, TRef.ofBuf_toBuf]
  | unary x y f =>
    have hy : W (Proc.devRef .tc y.ref) = (TRef.unary x y f).result V (Proc.devRef .tc y.ref) := hy
    rw [StableHlo.unary_result'] at hy
    have h1 := hr x.ref (by simp [reads])
    simp only [eqn, get, hy, h1, TRef.ofBuf_toBuf]
  | binary a b y f =>
    have hy : W (Proc.devRef .tc y.ref) = (TRef.binary a b y f).result V (Proc.devRef .tc y.ref) := hy
    rw [StableHlo.binary_result'] at hy
    have h1 := hr a.ref (by simp [reads])
    have h2 := hr b.ref (by simp [reads])
    simp only [eqn, get, hy, h1, h2, TRef.ofBuf_toBuf]
  | ternary c a b y f =>
    have hy : W (Proc.devRef .tc y.ref) = (TRef.ternary c a b y f).result V (Proc.devRef .tc y.ref) := hy
    rw [StableHlo.ternary_result'] at hy
    have h0 := hr c.ref (by simp [reads])
    have h1 := hr a.ref (by simp [reads])
    have h2 := hr b.ref (by simp [reads])
    simp only [eqn, get, hy, h0, h1, h2, TRef.ofBuf_toBuf]
  | reshape x y hn =>
    have hy : W (Proc.devRef .tc y.ref) = (TRef.reshape x y rfl hn).result V (Proc.devRef .tc y.ref) := hy
    rw [StableHlo.reshape_result'] at hy
    have h1 := hr x.ref (by simp [reads])
    simp only [eqn, get, hy, h1]
    exact cast_reshape x.ty_eq y.ty_eq _ _ hn _

/-- A buffer's number. -/
def key (r : Ref sig .tc) : Nat := r.idx.val

/-- The line writes its buffers in the order of their numbers, from `lo` on and below `hi`, and reads only buffers numbered
    below the one it writes. -/
def chain : Nat → List (Node sig Val) → Nat → Bool
  | lo, [], hi => Nat.ble lo hi
  | lo, n :: l, hi => Nat.ble lo (key n.out) && (n.reads.all fun r => Nat.blt (key r) (key n.out)) && chain (key n.out + 1) l hi

/-- What a chain says of its first operation and of the rest. -/
theorem chain_cons {lo hi : Nat} {n : Node sig Val} {l : List (Node sig Val)} (h : chain lo (n :: l) hi = true) :
    lo ≤ key n.out ∧ (∀ r ∈ n.reads, key r < key n.out) ∧ chain (key n.out + 1) l hi = true := by
  simp only [chain, Bool.and_eq_true, List.all_eq_true] at h
  exact ⟨Nat.le_of_ble_eq_true h.1.1, fun r hr => Nat.le_of_ble_eq_true (h.1.2 r hr), h.2⟩

/-- A chain, from its first operation and the rest. -/
theorem chain_of {lo hi : Nat} {n : Node sig Val} {l : List (Node sig Val)} (h1 : lo ≤ key n.out) (h2 : ∀ r ∈ n.reads, key r < key n.out)
    (h3 : chain (key n.out + 1) l hi = true) : chain lo (n :: l) hi = true := by
  simp only [chain, Bool.and_eq_true, List.all_eq_true]
  exact ⟨⟨Nat.ble_eq_true_of_le h1, fun r hr => Nat.ble_eq_true_of_le (h2 r hr)⟩, h3⟩

/-- It may be said to start lower. -/
theorem chain_mono {lo lo' hi : Nat} (h : lo' ≤ lo) : ∀ {l : List (Node sig Val)}, chain lo l hi = true → chain lo' l hi = true
  | [], hc => Nat.ble_eq_true_of_le (h.trans (Nat.le_of_ble_eq_true hc))
  | n :: l, hc => by
    obtain ⟨h1, h2, h3⟩ := chain_cons hc
    exact chain_of (h.trans h1) h2 h3

/-- Two lines one after the other. -/
theorem chain_append {mid hi : Nat} {l' : List (Node sig Val)} (h' : chain mid l' hi = true) :
    ∀ {lo : Nat} {l : List (Node sig Val)}, chain lo l mid = true → chain lo (l ++ l') hi = true
  | lo, [], hc => chain_mono (Nat.le_of_ble_eq_true hc) h'
  | lo, n :: l, hc => by
    obtain ⟨h1, h2, h3⟩ := chain_cons hc
    exact chain_of h1 h2 (chain_append h' h3)

/-- What the line writes is numbered from `lo` on. -/
theorem chain_le {hi : Nat} : ∀ {lo : Nat} {l : List (Node sig Val)}, chain lo l hi = true → ∀ n ∈ l, lo ≤ key n.out
  | _, [], _, _, h => nomatch h
  | lo, m :: l, hc, n, hn => by
    obtain ⟨h1, h2, h3⟩ := chain_cons hc
    rcases List.mem_cons.1 hn with rfl | hn
    · exact h1
    · exact h1.trans ((Nat.le_succ _).trans (chain_le h3 n hn))

/-- The line's operations. -/
def ops (l : List (Node sig Val)) : List (HloOp τ sig Val) := l.map Node.op

/-- A buffer numbered below everything the line writes keeps its contents. -/
theorem after_keep {lo hi : Nat} {l : List (Node sig Val)} (hc : chain lo l hi = true) (V : Valuation τ sig Val) (r : Ref sig .tc)
    (hr : key r < lo) : after (ops l) V (Proc.devRef .tc r) = V (Proc.devRef .tc r) := by
  refine StableHlo.after_of_forall_not_mem _ V fun o ho => ?_
  obtain ⟨n, hn, rfl⟩ := List.mem_map.1 ho
  rw [n.writes_op, Finset.mem_singleton]
  refine StableHlo.devRef_ne_of_ne fun e => ?_
  have := chain_le hc n hn
  rw [← e] at this; omega

/-- After the line every operation's equation holds. -/
theorem after_eqn {hi : Nat} : ∀ {lo : Nat} {l : List (Node sig Val)}, chain lo l hi = true → ∀ V : Valuation τ sig Val,
    ∀ n ∈ l, n.eqn (after (ops l) V)
  | _, [], _, _, _, h => nomatch h
  | lo, m :: l, hc, V, n, hn => by
    obtain ⟨h1, h2, h3⟩ := chain_cons hc
    rcases List.mem_cons.1 hn with rfl | hn
    · refine n.eqn_of V _ (fun r hr => ?_) ?_
      · refine (after_keep h3 (n.op.result V) r (by have := h2 r hr; omega)).trans ?_
        refine HloOp.result_of_not_mem _ _ ?_
        rw [n.writes_op, Finset.mem_singleton]
        exact StableHlo.devRef_ne_of_ne fun e => by have := h2 r hr; rw [e] at this; omega
      · exact after_keep h3 (n.op.result V) n.out (Nat.lt_succ_self _)
    · exact after_eqn h3 (m.op.result V) n hn

variable {nD : Nat} {Λ : Labels}

/-- A program that is such a line, on a signature that scopes nothing and has no semaphore: it runs to its end from any
    memory, every operation's equation then holds, buffers numbered below the line are as they were, and no semaphore
    counts anything. -/
theorem run_line (hR : (Finset.univ.filter fun b : Ref sig .tc => b.isScoped) = ∅)
    (hC : (Finset.univ.filter fun sm : SemLoc sig => sm.isScoped .tc) = ∅) (hs : sig.nSem + sig.nDmaSem = 0)
    (defs : Defs nD τ sig Val Λ) (main : Dev nD → Prog (TpuEff nD τ sig Val Λ .tc) PUnit)
    (l : List (Node sig Val)) (lo hi : Nat) (hmain : ∀ d, main d = seq (ops l)) (hc : chain lo l hi = true)
    (m : (ℓ : Loc nD τ sig) → Buf Val ℓ) (ρ : Dev nD → PrngReg) :
    θ_run defs (onTc (τ := τ) main) ⟨m, fun _ => 0, ρ⟩ fun r =>
      (∀ d : Dev nD, ∃ W : Valuation τ sig Val, (∀ b : Ref sig .tc, r.2.mem ((d.tc : Thread nD τ).loc b) = W (Proc.devRef .tc b))
        ∧ (∀ n ∈ l, n.eqn W) ∧ ∀ b : Ref sig .tc, key b < lo → W (Proc.devRef .tc b) = m ((d.tc : Thread nD τ).loc b))
      ∧ r.2.sem = fun _ => 0 := by
  refine (θ_run _ _ _).mono (fun r h => ⟨fun d => ⟨after (ops l) (StableHlo.launchContents m d), h d, after_eqn hc _, fun b hb => after_keep hc _ b hb⟩,
    sem_eq_zero_of_no_sems hs _⟩) (StableHlo.run_seq hR hC defs main (fun _ => ops l) hmain (fun _ => ?_) m ρ (fun _ o ho => ?_))
  · refine List.forall_iff_forall_mem.2 fun o ho => ?_
    obtain ⟨n, -, rfl⟩ := List.mem_map.1 ho
    exact n.bufs_op
  · obtain ⟨n, -, rfl⟩ := List.mem_map.1 ho
    exact n.fresh_op

end Cert.Proof.Line

end
-- ==== Proof.RefCipher.lean ====
/- The block cipher as the reference writes it, over arrays of any one shape: a round, an addition of key words, the whole;
   each as a line of operations over the buffers of its values, and what its buffers then hold, element by element. -/
module

public import proofs.«01_k».proof.Proof.RefLine
public import proofs.«01_k».proof.Proof.Threefry
public import proofs.«01_k».proof.ReferenceIdeal

@[expose] public section

noncomputable section

namespace Cert.Proof.Cipher

open Idealize.ShloMosaic Idealize.SL.Sem Cert.Proof.Line
open Idealize.ShloMosaic.StableHlo (TRef)
open Cert.ReferenceIdeal (S_)

variable {τ : Topo} {sig : RefSig} {F : FTy → Type} [FloatOps F]

variable (sig) in
/-- A value of the shape `S`, in words. -/
abbrev TS (S : Shape) := TRef sig (⟨S, .i32⟩ : BufTy)

variable (sig) in
/-- The buffers of one round. -/
structure Rd (S : Shape) where
  s : TS sig S
  c : TS sig S_
  t : TS sig S
  l : TS sig S
  c' : TS sig S_
  t' : TS sig S
  r : TS sig S
  o : TS sig S
  x : TS sig S

variable (sig) in
/-- The buffers of one addition of key words. -/
structure Ij (S : Shape) where
  k : TS sig S
  x : TS sig S
  k' : TS sig S
  y : TS sig S
  c : TS sig S_
  t : TS sig S
  z : TS sig S

variable (sig) in
/-- The buffers of four rounds and the addition after them. -/
structure Gp (S : Shape) where
  r0 : Rd sig S
  r1 : Rd sig S
  r2 : Rd sig S
  r3 : Rd sig S
  j : Ij sig S

variable (sig) in
/-- The buffers of the whole cipher. -/
structure Tf (S : Shape) where
  v0 : TS sig S_
  c : TS sig S_
  v1 : TS sig S_
  v2 : TS sig S
  v3 : TS sig S
  v4 : TS sig S
  v5 : TS sig S
  g0 : Gp sig S
  g1 : Gp sig S
  g2 : Gp sig S
  g3 : Gp sig S
  g4 : Gp sig S

variable {S : Shape} (bc : S_.BroadcastsInDim S (![] : Fin 0 → Fin S.rank))

/-- One round of the two words `a`, `b` by the amounts `n` and `n'`. -/
abbrev Rd.nodes (R : Rd sig S) (a b : TS sig S) (n n' : BitVec 32) : List (Node sig (Elt F)) :=
  [.binary a b R.s addi, .nullary R.c (constantI S_ 32 n), .unary R.c R.t (broadcastInDim S ![] bc), .binary b R.t R.l Host.shli,
    .nullary R.c' (constantI S_ 32 n'), .unary R.c' R.t' (broadcastInDim S ![] bc), .binary b R.t' R.r Host.shrui,
    .binary R.l R.r R.o ori, .binary R.s R.o R.x xori]

/-- The key words `ka`, `kb` and the number `n` added to the words `a`, `b`. -/
abbrev Ij.nodes (J : Ij sig S) (a b : TS sig S) (ka kb : TS sig S_) (n : BitVec 32) : List (Node sig (Elt F)) :=
  [.unary ka J.k (broadcastInDim S ![] bc), .binary a J.k J.x addi, .unary kb J.k' (broadcastInDim S ![] bc), .binary b J.k' J.y addi,
    .nullary J.c (constantI S_ 32 n), .unary J.c J.t (broadcastInDim S ![] bc), .binary J.y J.t J.z addi]

/-- Four rounds and the addition after them, by four pairs of amounts. -/
abbrev Gp.nodes (G : Gp sig S) (a b : TS sig S) (ka kb : TS sig S_) (n0 m0 n1 m1 n2 m2 n3 m3 n : BitVec 32) : List (Node sig (Elt F)) :=
  G.r0.nodes bc a b n0 m0 ++ (G.r1.nodes bc G.r0.s G.r0.x n1 m1 ++ (G.r2.nodes bc G.r1.s G.r1.x n2 m2 ++
    (G.r3.nodes bc G.r2.s G.r2.x n3 m3 ++ G.j.nodes bc G.r3.s G.r3.x ka kb n)))

/-- A group of the first kind: rounds by 13, 15, 26 and 6. -/
abbrev Gp.nodesA (G : Gp sig S) (a b : TS sig S) (ka kb : TS sig S_) (n : BitVec 32) : List (Node sig (Elt F)) :=
  G.nodes bc a b ka kb 13#32 19#32 15#32 17#32 26#32 6#32 6#32 26#32 n
/-- A group of the second kind: rounds by 17, 29, 16 and 24. -/
abbrev Gp.nodesB (G : Gp sig S) (a b : TS sig S) (ka kb : TS sig S_) (n : BitVec 32) : List (Node sig (Elt F)) :=
  G.nodes bc a b ka kb 17#32 15#32 29#32 3#32 16#32 16#32 24#32 8#32 n

/-- The third key word, and the key words added to the counter. -/
abbrev Tf.head (φ : Tf sig S) (k0 k1 : TS sig S_) (a b : TS sig S) : List (Node sig (Elt F)) :=
  [.binary k0 k1 φ.v0 xori, .nullary φ.c (constantI S_ 32 466688986#32), .binary φ.v0 φ.c φ.v1 xori,
    .unary k0 φ.v2 (broadcastInDim S ![] bc), .binary a φ.v2 φ.v3 addi, .unary k1 φ.v4 (broadcastInDim S ![] bc), .binary b φ.v4 φ.v5 addi]

/-- The whole cipher under the key `k0`, `k1` of the counter words `a`, `b`. -/
abbrev Tf.nodes (φ : Tf sig S) (k0 k1 : TS sig S_) (a b : TS sig S) : List (Node sig (Elt F)) :=
  φ.head bc k0 k1 a b ++ (φ.g0.nodesA bc φ.v3 φ.v5 k1 φ.v1 1#32 ++ (φ.g1.nodesB bc φ.g0.j.x φ.g0.j.z φ.v1 k0 2#32 ++
    (φ.g2.nodesA bc φ.g1.j.x φ.g1.j.z k0 k1 3#32 ++ (φ.g3.nodesB bc φ.g2.j.x φ.g2.j.z k1 φ.v1 4#32 ++
      φ.g4.nodesA bc φ.g3.j.x φ.g3.j.z φ.v1 k0 5#32))))

variable {W : Valuation τ sig (Elt F)}

/-- The two words two arrays hold at an index. -/
abbrev at2 (W : Valuation τ sig (Elt F)) (a b : TS sig S) (i : S.Idx) : BitVec 32 × BitVec 32 := (get W a i, get W b i)

/-- A round's buffers hold the round's words. -/
theorem Rd.value (R : Rd sig S) {a b : TS sig S} {n n' : BitVec 32} (hn : n.toNat < 32) (hn' : n'.toNat < 32)
    (h : ∀ q ∈ R.nodes (F := F) bc a b n n', q.eqn W) (i : S.Idx) : at2 W R.s R.x i = Words.rnd n n' (at2 W a b i) := by
  simp only [Rd.nodes, List.forall_mem_cons, Node.eqn] at h
  obtain ⟨h1, h2, h3, h4, h5, h6, h7, h8, h9, -⟩ := h
  have e1 : get W R.s i = get W a i + get W b i := congrFun h1 i
  have e4 : get W R.l i = get W b i <<< n := by
    rw [h4, h3, h2]; exact if_pos hn
  have e7 : get W R.r i = get W b i >>> n' := by
    rw [h7, h6, h5]; exact if_pos hn'
  have e9 : get W R.x i = (get W a i + get W b i) ^^^ (get W b i <<< n ||| get W b i >>> n') := by
    rw [← e1, ← e4, ← e7, h9, h8]; rfl
  exact Prod.ext e1 e9

/-- An addition's buffers hold the sums. -/
theorem Ij.value (J : Ij sig S) {a b : TS sig S} {ka kb : TS sig S_} {n ca cb : BitVec 32} (ha : get W ka = fun _ => ca) (hb : get W kb = fun _ => cb)
    (h : ∀ q ∈ J.nodes (F := F) bc a b ka kb n, q.eqn W) (i : S.Idx) : at2 W J.x J.z i = Words.inj ca cb n (at2 W a b i) := by
  simp only [Ij.nodes, List.forall_mem_cons, Node.eqn] at h
  obtain ⟨h1, h2, h3, h4, h5, h6, h7, -⟩ := h
  refine Prod.ext ?_ ?_
  · show get W J.x i = get W a i + ca
    rw [h2, h1, ha]; rfl
  · show get W J.z i = get W b i + cb + n
    rw [h7, h6, h5, h4, h3, hb]; rfl

/-- A group's buffers hold the four rounds' words with the key words added. -/
theorem Gp.value (G : Gp sig S) {a b : TS sig S} {ka kb : TS sig S_} {n0 m0 n1 m1 n2 m2 n3 m3 n ca cb : BitVec 32}
    (hn : n0.toNat < 32 ∧ m0.toNat < 32 ∧ n1.toNat < 32 ∧ m1.toNat < 32 ∧ n2.toNat < 32 ∧ m2.toNat < 32 ∧ n3.toNat < 32 ∧ m3.toNat < 32)
    (ha : get W ka = fun _ => ca) (hb : get W kb = fun _ => cb)
    (h : ∀ q ∈ G.nodes (F := F) bc a b ka kb n0 m0 n1 m1 n2 m2 n3 m3 n, q.eqn W) (i : S.Idx) :
    at2 W G.j.x G.j.z i = Words.inj ca cb n (Words.rnd n3 m3 (Words.rnd n2 m2 (Words.rnd n1 m1 (Words.rnd n0 m0 (at2 W a b i))))) := by
  obtain ⟨l0, k0, l1, k1, l2, k2, l3, k3⟩ := hn
  rw [Gp.nodes, List.forall_mem_append, List.forall_mem_append, List.forall_mem_append, List.forall_mem_append] at h
  obtain ⟨h0, h1, h2, h3, h4⟩ := h
  rw [G.j.value bc ha hb h4 i, G.r3.value bc l3 k3 h3 i, G.r2.value bc l2 k2 h2 i, G.r1.value bc l1 k1 h1 i, G.r0.value bc l0 k0 h0 i]

/-- The cipher's two result buffers hold, at every index, the cipher of the counter words there. -/
theorem Tf.value (φ : Tf sig S) {k0 k1 : TS sig S_} {a b : TS sig S} {c0 c1 : BitVec 32} (h0 : get W k0 = fun _ => c0) (h1 : get W k1 = fun _ => c1)
    (h : ∀ q ∈ φ.nodes (F := F) bc k0 k1 a b, q.eqn W) (i : S.Idx) : at2 W φ.g4.j.x φ.g4.j.z i = Words.threefry c0 c1 (at2 W a b i) := by
  simp only [Tf.nodes] at h
  obtain ⟨hh, g0, h⟩ := (List.forall_mem_append.1 h).imp_right List.forall_mem_append.1
  obtain ⟨g1, g2, h⟩ := (List.forall_mem_append.1 h).imp_right List.forall_mem_append.1
  obtain ⟨g3, g4⟩ := List.forall_mem_append.1 h
  clear h
  simp only [Tf.head, List.forall_mem_cons, Node.eqn] at hh
  obtain ⟨e0, e1, e2, e3, e4, e5, e6, -⟩ := hh
  have h2 : get W φ.v1 = fun _ => Words.third c0 c1 := by rw [e2, e1, e0, h0, h1]; rfl
  have hs : at2 W φ.v3 φ.v5 i = ((at2 W a b i).1 + c0, (at2 W a b i).2 + c1) := by
    refine Prod.ext ?_ ?_
    · show get W φ.v3 i = _
      rw [e4, e3, h0]; rfl
    · show get W φ.v5 i = _
      rw [e6, e5, h1]; rfl
  rw [φ.g4.value bc (by decide) h2 h0 g4 i, φ.g3.value bc (by decide) h1 h2 g3 i, φ.g2.value bc (by decide) h0 h1 g2 i,
    φ.g1.value bc (by decide) h2 h0 g1 i, φ.g0.value bc (by decide) h1 h2 g0 i, hs]
  rfl

end Cert.Proof.Cipher

end
-- ==== Proof.RefBodyOne.lean ====
/- The cipher of the reference over one pair of words: its body is the line of the cipher's operations over its buffers. -/
module

public import proofs.«01_k».proof.Proof.RefCipher

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- The buffers of a call, as the cipher's. -/
abbrev bufOne (φ : fn_threefry2x32.Bufs) : Tf sig S1 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The operations of a call. -/
abbrev nodesOne (a0 a1 : TS sig S_) (a2 a3 : TS sig S1) (φ : fn_threefry2x32.Bufs) : List (Node sig (Elt F)) :=
  (bufOne φ).nodes bcast_S_S1 a0 a1 a2 a3

section
variable (a0 a1 : TS sig S_) (a2 a3 : TS sig S1) (φ : fn_threefry2x32.Bufs)

/-- The first stretch of the cipher's body is that stretch of the line. -/
theorem part0One : fn_threefry2x32.body_part0 (F := F) a0 a1 a2 a3 φ = seq (((ops (nodesOne (F := F) a0 a1 a2 a3 φ)).drop 0).take 60) := rfl

/-- The second stretch of the cipher's body is that stretch of the line. -/
theorem part1One : fn_threefry2x32.body_part1 (F := F) a0 a1 a2 a3 φ = seq (((ops (nodesOne (F := F) a0 a1 a2 a3 φ)).drop 60).take 60) := rfl

/-- The third stretch of the cipher's body is that stretch of the line. -/
theorem part2One : fn_threefry2x32.body_part2 (F := F) a0 a1 a2 a3 φ = seq (((ops (nodesOne (F := F) a0 a1 a2 a3 φ)).drop 120).take 60) := rfl

/-- The last stretch of the cipher's body is that stretch of the line. -/
theorem part3One : fn_threefry2x32.body_part3 (F := F) a0 a1 a2 a3 φ = seq (((ops (nodesOne (F := F) a0 a1 a2 a3 φ)).drop 180).take 42) := rfl

/-- The body of a call is the line of its operations. -/
theorem bodyOne : fn_threefry2x32.body (F := F) a0 a1 a2 a3 φ = seq (ops (nodesOne (F := F) a0 a1 a2 a3 φ)) := by
  have h : ops (τ := τ) (nodesOne (F := F) a0 a1 a2 a3 φ) = ((ops (nodesOne (F := F) a0 a1 a2 a3 φ)).drop 0).take 60 ++ (((ops (nodesOne (F := F) a0 a1 a2 a3 φ)).drop 60).take 60
    ++ (((ops (nodesOne (F := F) a0 a1 a2 a3 φ)).drop 120).take 60 ++ ((ops (nodesOne (F := F) a0 a1 a2 a3 φ)).drop 180).take 42)) := rfl
  rw [h, StableHlo.seq_append, StableHlo.seq_append, StableHlo.seq_append, fn_threefry2x32.body, part0One, part1One, part2One, part3One]

end

end Cert.Proof.Reference

end
-- ==== Proof.RefFold.lean ====
/- Folding a number into a key, as the reference writes it: the line of its operations. -/
module

public import proofs.«01_k».proof.Proof.RefBodyOne

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- Folding a number into a key: operations between calls, stretch 1. -/
abbrev fold0 (a0 : TS sig S2) (a1 : TS sig S_) (φ : fn_threefry_fold_in.Bufs) : List (Node sig (Elt F)) :=
  [.nullary φ.c (constantI S_ 32 32#32),
    .binary a1 φ.c φ.v0 Host.shrui,
    .unary φ.v0 φ.v1 (broadcastInDim S1 ![] bcast_S_S1),
    .nullary φ.c_0 (constantI S_ 32 4294967295#32),
    .binary a1 φ.c_0 φ.v2 andi,
    .unary φ.v2 φ.v3 (broadcastInDim S1 ![] bcast_S_S1),
    .binary φ.v1 φ.v3 φ.v4 (fun a b => concatenate S2 0 [⟨S1, a⟩, ⟨S1, b⟩] concatenates_S1_S1_S2_d0),
    .unary a0 φ.v5 (extractStridedSlice S1 ![0] · slices_S2_S1_0),
    .reshape φ.v5 φ.v6 shapeCasts_S1_S_,
    .unary a0 φ.v7 (extractStridedSlice S1 ![1] · slices_S2_S1_1),
    .reshape φ.v7 φ.v8 shapeCasts_S1_S_,
    .unary φ.v4 φ.v9 (extractStridedSlice S1 ![0] · slices_S2_S1_0),
    .unary φ.v4 φ.v10 (extractStridedSlice S1 ![1] · slices_S2_S1_1)]

/-- Folding a number into a key: operations between calls, stretch 2. -/
abbrev fold1 (a0 : TS sig S2) (a1 : TS sig S_) (φ : fn_threefry_fold_in.Bufs) : List (Node sig (Elt F)) :=
  [.binary φ.call0.v171 φ.call0.v175 φ.v12 (fun a b => concatenate S2 0 [⟨S1, a⟩, ⟨S1, b⟩] concatenates_S1_S1_S2_d0)]

/-- Folding a number into a key. -/
abbrev nodesFold (a0 : TS sig S2) (a1 : TS sig S_) (φ : fn_threefry_fold_in.Bufs) : List (Node sig (Elt F)) :=
  fold0 a0 a1 φ ++ (nodesOne φ.v6 φ.v8 φ.v9 φ.v10 φ.call0 ++ (fold1 a0 a1 φ))

/-- The body of that call is the line of its operations. -/
theorem bodyFold (a0 : TS sig S2) (a1 : TS sig S_) (φ : fn_threefry_fold_in.Bufs) : fn_threefry_fold_in.body (F := F) a0 a1 φ = seq (ops (nodesFold (F := F) a0 a1 φ)) := by
  rw [fn_threefry_fold_in.body, bodyOne]
  simp only [nodesFold, ops, List.map_append, StableHlo.seq_append]
  rfl

end Cert.Proof.Reference

end
-- ==== Proof.RefBodyTwo.lean ====
/- The cipher of the reference over two pairs of words: its body is the line of the cipher's operations over its buffers. -/
module

public import proofs.«01_k».proof.Proof.RefCipher

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- The buffers of a call, as the cipher's. -/
abbrev bufTwo (φ : fn_threefry2x32_1.Bufs) : Tf sig S2 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The operations of a call. -/
abbrev nodesTwo (a0 a1 : TS sig S_) (a2 a3 : TS sig S2) (φ : fn_threefry2x32_1.Bufs) : List (Node sig (Elt F)) :=
  (bufTwo φ).nodes bcast_S_S2 a0 a1 a2 a3

section
variable (a0 a1 : TS sig S_) (a2 a3 : TS sig S2) (φ : fn_threefry2x32_1.Bufs)

/-- The first stretch of the cipher's body is that stretch of the line. -/
theorem part0Two : fn_threefry2x32_1.body_part0 (F := F) a0 a1 a2 a3 φ = seq (((ops (nodesTwo (F := F) a0 a1 a2 a3 φ)).drop 0).take 60) := rfl

/-- The second stretch of the cipher's body is that stretch of the line. -/
theorem part1Two : fn_threefry2x32_1.body_part1 (F := F) a0 a1 a2 a3 φ = seq (((ops (nodesTwo (F := F) a0 a1 a2 a3 φ)).drop 60).take 60) := rfl

/-- The third stretch of the cipher's body is that stretch of the line. -/
theorem part2Two : fn_threefry2x32_1.body_part2 (F := F) a0 a1 a2 a3 φ = seq (((ops (nodesTwo (F := F) a0 a1 a2 a3 φ)).drop 120).take 60) := rfl

/-- The last stretch of the cipher's body is that stretch of the line. -/
theorem part3Two : fn_threefry2x32_1.body_part3 (F := F) a0 a1 a2 a3 φ = seq (((ops (nodesTwo (F := F) a0 a1 a2 a3 φ)).drop 180).take 42) := rfl

/-- The body of a call is the line of its operations. -/
theorem bodyTwo : fn_threefry2x32_1.body (F := F) a0 a1 a2 a3 φ = seq (ops (nodesTwo (F := F) a0 a1 a2 a3 φ)) := by
  have h : ops (τ := τ) (nodesTwo (F := F) a0 a1 a2 a3 φ) = ((ops (nodesTwo (F := F) a0 a1 a2 a3 φ)).drop 0).take 60 ++ (((ops (nodesTwo (F := F) a0 a1 a2 a3 φ)).drop 60).take 60
    ++ (((ops (nodesTwo (F := F) a0 a1 a2 a3 φ)).drop 120).take 60 ++ ((ops (nodesTwo (F := F) a0 a1 a2 a3 φ)).drop 180).take 42)) := rfl
  rw [h, StableHlo.seq_append, StableHlo.seq_append, StableHlo.seq_append, fn_threefry2x32_1.body, part0Two, part1Two, part2Two, part3Two]

end

end Cert.Proof.Reference

end
-- ==== Proof.RefSplit.lean ====
/- Splitting a key in two, as the reference writes it: the line of its operations. -/
module

public import proofs.«01_k».proof.Proof.RefBodyTwo

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- Splitting a key: operations between calls, stretch 1. -/
abbrev split0 (a0 : TS sig S2) (φ : fn_threefry_split.Bufs) : List (Node sig (Elt F)) :=
  [.unary a0 φ.v0 (extractStridedSlice S1 ![0] · slices_S2_S1_0),
    .reshape φ.v0 φ.v1 shapeCasts_S1_S_,
    .unary a0 φ.v2 (extractStridedSlice S1 ![1] · slices_S2_S1_1),
    .reshape φ.v2 φ.v3 shapeCasts_S1_S_,
    .nullary φ.v4 (iotaInDim S2 64 0),
    .nullary φ.c (constantI S_ 64 1#64),
    .unary φ.c φ.v5 (broadcastInDim S2 ![] bcast_S_S2),
    .binary φ.v5 φ.v4 φ.v6 muli,
    .nullary φ.c_0 (constantI S_ 64 32#64),
    .unary φ.c_0 φ.v7 (broadcastInDim S2 ![] bcast_S_S2),
    .binary φ.v6 φ.v7 φ.v8 Host.shrui,
    .unary φ.v6 φ.v9 (trunci 32 · natLt_32_64),
    .unary φ.v8 φ.v10 (trunci 32 · natLt_32_64)]

/-- Splitting a key: operations between calls, stretch 2. -/
abbrev split1 (a0 : TS sig S2) (φ : fn_threefry_split.Bufs) : List (Node sig (Elt F)) :=
  [.unary φ.call0.v171 φ.v12 (broadcastInDim S2x1 ![0] bcast_S2_S2x1_0),
    .unary φ.call0.v175 φ.v13 (broadcastInDim S2x1 ![0] bcast_S2_S2x1_0),
    .binary φ.v12 φ.v13 φ.v14 (fun a b => concatenate S2x2 1 [⟨S2x1, a⟩, ⟨S2x1, b⟩] concatenates_S2x1_S2x1_S2x2_d1)]

/-- Splitting a key. -/
abbrev nodesSplit (a0 : TS sig S2) (φ : fn_threefry_split.Bufs) : List (Node sig (Elt F)) :=
  split0 a0 φ ++ (nodesTwo φ.v1 φ.v3 φ.v10 φ.v9 φ.call0 ++ (split1 a0 φ))

/-- The body of that call is the line of its operations. -/
theorem bodySplit (a0 : TS sig S2) (φ : fn_threefry_split.Bufs) : fn_threefry_split.body (F := F) a0 φ = seq (ops (nodesSplit (F := F) a0 φ)) := by
  rw [fn_threefry_split.body, bodyTwo]
  simp only [nodesSplit, ops, List.map_append, StableHlo.seq_append]
  rfl

end Cert.Proof.Reference

end
-- ==== Proof.RefBodyAll.lean ====
/- The cipher of the reference over the whole array of words: its body is the line of the cipher's operations over its buffers. -/
module

public import proofs.«01_k».proof.Proof.RefCipher

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- The buffers of a call, as the cipher's. -/
abbrev bufAll (φ : fn_threefry2x32_2.Bufs) : Tf sig S16384x200 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The operations of a call. -/
abbrev nodesAll (a0 a1 : TS sig S_) (a2 a3 : TS sig S16384x200) (φ : fn_threefry2x32_2.Bufs) : List (Node sig (Elt F)) :=
  (bufAll φ).nodes bcast_S_S16384x200 a0 a1 a2 a3

section
variable (a0 a1 : TS sig S_) (a2 a3 : TS sig S16384x200) (φ : fn_threefry2x32_2.Bufs)

/-- The first stretch of the cipher's body is that stretch of the line. -/
theorem part0All : fn_threefry2x32_2.body_part0 (F := F) a0 a1 a2 a3 φ = seq (((ops (nodesAll (F := F) a0 a1 a2 a3 φ)).drop 0).take 60) := rfl

/-- The second stretch of the cipher's body is that stretch of the line. -/
theorem part1All : fn_threefry2x32_2.body_part1 (F := F) a0 a1 a2 a3 φ = seq (((ops (nodesAll (F := F) a0 a1 a2 a3 φ)).drop 60).take 60) := rfl

/-- The third stretch of the cipher's body is that stretch of the line. -/
theorem part2All : fn_threefry2x32_2.body_part2 (F := F) a0 a1 a2 a3 φ = seq (((ops (nodesAll (F := F) a0 a1 a2 a3 φ)).drop 120).take 60) := rfl

/-- The last stretch of the cipher's body is that stretch of the line. -/
theorem part3All : fn_threefry2x32_2.body_part3 (F := F) a0 a1 a2 a3 φ = seq (((ops (nodesAll (F := F) a0 a1 a2 a3 φ)).drop 180).take 42) := rfl

/-- The body of a call is the line of its operations. -/
theorem bodyAll : fn_threefry2x32_2.body (F := F) a0 a1 a2 a3 φ = seq (ops (nodesAll (F := F) a0 a1 a2 a3 φ)) := by
  have h : ops (τ := τ) (nodesAll (F := F) a0 a1 a2 a3 φ) = ((ops (nodesAll (F := F) a0 a1 a2 a3 φ)).drop 0).take 60 ++ (((ops (nodesAll (F := F) a0 a1 a2 a3 φ)).drop 60).take 60
    ++ (((ops (nodesAll (F := F) a0 a1 a2 a3 φ)).drop 120).take 60 ++ ((ops (nodesAll (F := F) a0 a1 a2 a3 φ)).drop 180).take 42)) := rfl
  rw [h, StableHlo.seq_append, StableHlo.seq_append, StableHlo.seq_append, fn_threefry2x32_2.body, part0All, part1All, part2All, part3All]

end

end Cert.Proof.Reference

end
-- ==== Proof.RefRandint.lean ====
/- Drawing integers below a bound, as the reference writes it: the line of its operations. -/
module

public import proofs.«01_k».proof.Proof.RefSplit
public import proofs.«01_k».proof.Proof.RefBodyAll

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- Clipping a number between two others. -/
abbrev nodesClip (a0 a1 a2 : TS sig S_) (φ : fn_clip.Bufs) : List (Node sig (Elt F)) :=
  [.binary a1 a0 φ.v0 maxsi, .binary a2 φ.v0 φ.v1 minsi]

/-- Clipping the largest word is its line of operations. -/
theorem bodyClip (a0 a1 a2 : TS sig S_) (φ : fn_clip.Bufs) : fn_clip.body (F := F) a0 a1 a2 φ = seq (ops (nodesClip (F := F) a0 a1 a2 φ)) := rfl

/-- Clipping a number between two others. -/
abbrev nodesClip0 (a0 a1 a2 : TS sig S_) (φ : fn_clip_0.Bufs) : List (Node sig (Elt F)) :=
  [.binary a1 a0 φ.v0 maxsi, .binary a2 φ.v0 φ.v1 minsi]

/-- Clipping a bound is its line of operations. -/
theorem bodyClip0 (a0 a1 a2 : TS sig S_) (φ : fn_clip_0.Bufs) : fn_clip_0.body (F := F) a0 a1 a2 φ = seq (ops (nodesClip0 (F := F) a0 a1 a2 φ)) := rfl

/-- Drawing integers: operations between calls, stretch 1. -/
abbrev rand0 (a0 : TS sig S2) (a1 a2 : TS sig S_) (φ : fn_randint.Bufs) : List (Node sig (Elt F)) :=
  [.nullary φ.c (constantI S_ 32 2147483647#32),
    .nullary φ.c_0 (constantI S_ 32 2147483648#32),
    .nullary φ.c_1 (constantI S_ 32 2147483647#32)]

/-- Drawing integers: operations between calls, stretch 2. -/
abbrev rand1 (a0 : TS sig S2) (a1 a2 : TS sig S_) (φ : fn_randint.Bufs) : List (Node sig (Elt F)) :=
  [.binary a2 φ.call0.v1 φ.v1 (cmpi .sgt),
    .nullary φ.c_2 (constantI S_ 32 2147483648#32),
    .nullary φ.c_3 (constantI S_ 32 2147483647#32)]

/-- Drawing integers: operations between calls, stretch 3. -/
abbrev rand2 (a0 : TS sig S2) (a1 a2 : TS sig S_) (φ : fn_randint.Bufs) : List (Node sig (Elt F)) :=
  [.unary φ.call1.v1 φ.v3 id,
    .nullary φ.c_4 (constantI S_ 32 2147483648#32),
    .nullary φ.c_5 (constantI S_ 32 2147483647#32)]

/-- Drawing integers: operations between calls, stretch 4. -/
abbrev rand3 (a0 : TS sig S2) (a1 a2 : TS sig S_) (φ : fn_randint.Bufs) : List (Node sig (Elt F)) :=
  [.unary φ.call2.v1 φ.v5 id,
    .unary φ.v3 φ.v6 (broadcastInDim S1x1 ![] bcast_S_S1x1),
    .unary φ.v5 φ.v7 (broadcastInDim S1x1 ![] bcast_S_S1x1)]

/-- Drawing integers: operations between calls, stretch 5. -/
abbrev rand4 (a0 : TS sig S2) (a1 a2 : TS sig S_) (φ : fn_randint.Bufs) : List (Node sig (Elt F)) :=
  [.unary φ.call3.v14 φ.v9 (extractStridedSlice S1x2 ![0, 0] · slices_S2x2_S1x2_0_0),
    .reshape φ.v9 φ.v10 shapeCasts_S1x2_S2,
    .unary φ.call3.v14 φ.v11 (extractStridedSlice S1x2 ![1, 0] · slices_S2x2_S1x2_1_0),
    .reshape φ.v11 φ.v12 shapeCasts_S1x2_S2,
    .unary φ.v10 φ.v13 (extractStridedSlice S1 ![0] · slices_S2_S1_0),
    .reshape φ.v13 φ.v14 shapeCasts_S1_S_,
    .unary φ.v10 φ.v15 (extractStridedSlice S1 ![1] · slices_S2_S1_1),
    .reshape φ.v15 φ.v16 shapeCasts_S1_S_,
    .nullary φ.v17 (iotaInDim S16384x200 64 0),
    .nullary φ.v18 (iotaInDim S16384x200 64 1),
    .nullary φ.c_6 (constantI S_ 64 200#64),
    .unary φ.c_6 φ.v19 (broadcastInDim S16384x200 ![] bcast_S_S16384x200),
    .binary φ.v19 φ.v17 φ.v20 muli,
    .nullary φ.c_7 (constantI S_ 64 1#64),
    .unary φ.c_7 φ.v21 (broadcastInDim S16384x200 ![] bcast_S_S16384x200),
    .binary φ.v21 φ.v18 φ.v22 muli,
    .binary φ.v20 φ.v22 φ.v23 addi,
    .nullary φ.c_8 (constantI S_ 64 32#64),
    .unary φ.c_8 φ.v24 (broadcastInDim S16384x200 ![] bcast_S_S16384x200),
    .binary φ.v23 φ.v24 φ.v25 Host.shrui,
    .unary φ.v23 φ.v26 (trunci 32 · natLt_32_64),
    .unary φ.v25 φ.v27 (trunci 32 · natLt_32_64)]

/-- Drawing integers: operations between calls, stretch 6. -/
abbrev rand5 (a0 : TS sig S2) (a1 a2 : TS sig S_) (φ : fn_randint.Bufs) : List (Node sig (Elt F)) :=
  [.binary φ.call4.v171 φ.call4.v175 φ.v29 xori,
    .unary φ.v12 φ.v30 (extractStridedSlice S1 ![0] · slices_S2_S1_0),
    .reshape φ.v30 φ.v31 shapeCasts_S1_S_,
    .unary φ.v12 φ.v32 (extractStridedSlice S1 ![1] · slices_S2_S1_1),
    .reshape φ.v32 φ.v33 shapeCasts_S1_S_,
    .nullary φ.v34 (iotaInDim S16384x200 64 0),
    .nullary φ.v35 (iotaInDim S16384x200 64 1),
    .nullary φ.c_9 (constantI S_ 64 200#64),
    .unary φ.c_9 φ.v36 (broadcastInDim S16384x200 ![] bcast_S_S16384x200),
    .binary φ.v36 φ.v34 φ.v37 muli,
    .nullary φ.c_10 (constantI S_ 64 1#64),
    .unary φ.c_10 φ.v38 (broadcastInDim S16384x200 ![] bcast_S_S16384x200),
    .binary φ.v38 φ.v35 φ.v39 muli,
    .binary φ.v37 φ.v39 φ.v40 addi,
    .nullary φ.c_11 (constantI S_ 64 32#64),
    .unary φ.c_11 φ.v41 (broadcastInDim S16384x200 ![] bcast_S_S16384x200),
    .binary φ.v40 φ.v41 φ.v42 Host.shrui,
    .unary φ.v40 φ.v43 (trunci 32 · natLt_32_64),
    .unary φ.v42 φ.v44 (trunci 32 · natLt_32_64)]

/-- Drawing integers: operations between calls, stretch 7. -/
abbrev rand6 (a0 : TS sig S2) (a1 a2 : TS sig S_) (φ : fn_randint.Bufs) : List (Node sig (Elt F)) :=
  [.binary φ.call5.v171 φ.call5.v175 φ.v46 xori]

/-- Drawing integers, up to the two words drawn for each. -/
abbrev nodesDraw (a0 : TS sig S2) (a1 a2 : TS sig S_) (φ : fn_randint.Bufs) : List (Node sig (Elt F)) :=
  rand0 a0 a1 a2 φ ++ (nodesClip φ.c φ.c_0 φ.c_1 φ.call0 ++ (rand1 a0 a1 a2 φ ++ (nodesClip0 a1 φ.c_2 φ.c_3 φ.call1 ++ (rand2 a0 a1 a2 φ ++ (nodesClip0 a2 φ.c_4 φ.c_5 φ.call2 ++ (rand3 a0 a1 a2 φ ++ (nodesSplit a0 φ.call3 ++ (rand4 a0 a1 a2 φ ++ (nodesAll φ.v14 φ.v16 φ.v27 φ.v26 φ.call4 ++ (rand5 a0 a1 a2 φ ++ (nodesAll φ.v31 φ.v33 φ.v44 φ.v43 φ.call5 ++ (rand6 a0 a1 a2 φ))))))))))))

set_option maxRecDepth 20000 in
/-- Drawing, up to the two words, is its line of operations. -/
theorem bodyDraw (a0 : TS sig S2) (a1 a2 : TS sig S_) (φ : fn_randint.Bufs) : fn_randint.body_part0 (F := F) a0 a1 a2 φ = seq (ops (nodesDraw (F := F) a0 a1 a2 φ)) := by
  rw [fn_randint.body_part0, bodyClip, bodyClip0, bodyClip0, bodySplit, bodyAll, bodyAll]
  simp only [nodesDraw, ops, List.map_append, StableHlo.seq_append]
  rfl

/-- Fitting the words to the span: operations between calls, stretch 1. -/
abbrev fit0 (a0 : TS sig S2) (a1 a2 : TS sig S_) (φ : fn_randint.Bufs) : List (Node sig (Elt F)) :=
  [.binary φ.v7 φ.v6 φ.v47 subi,
    .unary φ.v47 φ.v48 id,
    .binary φ.v7 φ.v6 φ.v49 (cmpi .sle),
    .nullary φ.c_12 (constantI S_ 32 1#32),
    .unary φ.c_12 φ.v50 (broadcastInDim S1x1 ![] bcast_S_S1x1),
    .ternary φ.v49 φ.v50 φ.v48 φ.v51 select,
    .binary φ.v7 φ.v6 φ.v52 (cmpi .sgt),
    .unary φ.v1 φ.v53 (broadcastInDim S1x1 ![] bcast_S_S1x1),
    .binary φ.v53 φ.v52 φ.v54 andi,
    .nullary φ.c_13 (constantI S_ 32 1#32),
    .unary φ.c_13 φ.v55 (broadcastInDim S1x1 ![] bcast_S_S1x1),
    .binary φ.v51 φ.v55 φ.v56 addi,
    .ternary φ.v54 φ.v56 φ.v51 φ.v57 select,
    .nullary φ.c_14 (constantI S_ 32 65536#32),
    .unary φ.c_14 φ.v58 (broadcastInDim S1x1 ![] bcast_S_S1x1),
    .binary φ.v58 φ.v57 φ.v59 Host.remui,
    .binary φ.v59 φ.v59 φ.v60 muli,
    .binary φ.v60 φ.v57 φ.v61 Host.remui,
    .unary φ.v57 φ.v62 (broadcastInDim S16384x200 ![0, 1] bcast_S1x1_S16384x200_0_1),
    .binary φ.v29 φ.v62 φ.v63 Host.remui,
    .unary φ.v61 φ.v64 (broadcastInDim S16384x200 ![0, 1] bcast_S1x1_S16384x200_0_1),
    .binary φ.v63 φ.v64 φ.v65 muli,
    .unary φ.v57 φ.v66 (broadcastInDim S16384x200 ![0, 1] bcast_S1x1_S16384x200_0_1),
    .binary φ.v46 φ.v66 φ.v67 Host.remui,
    .binary φ.v65 φ.v67 φ.v68 addi,
    .unary φ.v57 φ.v69 (broadcastInDim S16384x200 ![0, 1] bcast_S1x1_S16384x200_0_1),
    .binary φ.v68 φ.v69 φ.v70 Host.remui,
    .unary φ.v70 φ.v71 id,
    .unary φ.v6 φ.v72 (broadcastInDim S16384x200 ![0, 1] bcast_S1x1_S16384x200_0_1),
    .binary φ.v72 φ.v71 φ.v73 addi]

/-- Drawing integers. -/
abbrev nodesRandint (a0 : TS sig S2) (a1 a2 : TS sig S_) (φ : fn_randint.Bufs) : List (Node sig (Elt F)) := nodesDraw a0 a1 a2 φ ++ fit0 a0 a1 a2 φ

/-- Fitting to the span is its line of operations. -/
theorem bodyFit (a0 : TS sig S2) (a1 a2 : TS sig S_) (φ : fn_randint.Bufs) : fn_randint.body_part1 (F := F) a0 a1 a2 φ = seq (ops (fit0 (F := F) a0 a1 a2 φ)) := rfl

/-- The body of that call is the line of its operations. -/
theorem bodyRandint (a0 : TS sig S2) (a1 a2 : TS sig S_) (φ : fn_randint.Bufs) : fn_randint.body (F := F) a0 a1 a2 φ = seq (ops (nodesRandint (F := F) a0 a1 a2 φ)) := by
  rw [fn_randint.body, bodyDraw, bodyFit]
  exact ((congrArg seq (List.map_append ..)).trans (StableHlo.seq_append _ _)).symm

end Cert.Proof.Reference

end
-- ==== Proof.RefMain.lean ====
/- The reference: the line of its operations. -/
module

public import proofs.«01_k».proof.Proof.RefFold
public import proofs.«01_k».proof.Proof.RefRandint

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

/-- The reference: operations between calls, stretch 1. -/
abbrev run0 : List (Node sig (Elt F)) :=
  [.nullary (.of main_c) (constantI S_ 32 0#32),
    .nullary (.of main_c_0) (constantI S_ 32 32#32),
    .binary (.of main_c) (.of main_c_0) (.of main_v0) (Host.shrui : (⟨S_, .i32⟩ : BufTy).Contents (Elt F) → (⟨S_, .i32⟩ : BufTy).Contents (Elt F) → (⟨S_, .i32⟩ : BufTy).Contents (Elt F)),
    .unary (.of main_v0) (.of main_v1) (id : (⟨S_, .i32⟩ : BufTy).Contents (Elt F) → (⟨S_, .i32⟩ : BufTy).Contents (Elt F)),
    .unary (.of main_v1) (.of main_v2) (broadcastInDim S1 ![] bcast_S_S1 : (⟨S_, .i32⟩ : BufTy).Contents (Elt F) → (⟨S1, .i32⟩ : BufTy).Contents (Elt F)),
    .nullary (.of main_c_1) (constantI S_ 32 4294967295#32),
    .binary (.of main_c) (.of main_c_1) (.of main_v3) (andi : (⟨S_, .i32⟩ : BufTy).Contents (Elt F) → (⟨S_, .i32⟩ : BufTy).Contents (Elt F) → (⟨S_, .i32⟩ : BufTy).Contents (Elt F)),
    .unary (.of main_v3) (.of main_v4) (id : (⟨S_, .i32⟩ : BufTy).Contents (Elt F) → (⟨S_, .i32⟩ : BufTy).Contents (Elt F)),
    .unary (.of main_v4) (.of main_v5) (broadcastInDim S1 ![] bcast_S_S1 : (⟨S_, .i32⟩ : BufTy).Contents (Elt F) → (⟨S1, .i32⟩ : BufTy).Contents (Elt F)),
    .binary (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    .nullary (.of main_c_2) (constantI S_ 32 1#32)]

/-- The reference: operations between calls, stretch 2. -/
abbrev run1 : List (Node sig (Elt F)) :=
  [.nullary (.of main_c_3) (constantI S_ 32 0#32),
    .nullary (.of main_c_4) (constantI S_ 32 1000000#32)]

/-- The reference: operations between calls, stretch 3. -/
abbrev run2 : List (Node sig (Elt F)) :=
  [.nullary (.of main_cst) (constant S_ .f32 0x49742400#32),
    .unary (.of main_cst) (.of main_v9) (broadcastInDim S16384x200 ![] bcast_S_S16384x200 : (⟨S_, .f32⟩ : BufTy).Contents (Elt F) → (⟨S16384x200, .f32⟩ : BufTy).Contents (Elt F)),
    .binary (.of main_v9) (.of main_arg1) (.of main_v10) (mulf : (⟨S16384x200, .f32⟩ : BufTy).Contents (Elt F) → (⟨S16384x200, .f32⟩ : BufTy).Contents (Elt F) → (⟨S16384x200, .f32⟩ : BufTy).Contents (Elt F)),
    .unary (.of main_v10) (.of main_v11) (Host.log : (⟨S16384x200, .f32⟩ : BufTy).Contents (Elt F) → (⟨S16384x200, .f32⟩ : BufTy).Contents (Elt F)),
    .unary (.of main_v11) (.of main_v12) (Host.negf : (⟨S16384x200, .f32⟩ : BufTy).Contents (Elt F) → (⟨S16384x200, .f32⟩ : BufTy).Contents (Elt F))]

/-- The reference. -/
abbrev nodesMain : List (Node sig (Elt F)) :=
  run0 ++ (nodesFold (.of main_v6) (.of main_c_2) main_call0 ++ (run1 ++ (nodesRandint (.of main_v7) (.of main_c_3) (.of main_c_4) main_call1 ++ (run2))))

/-- The reference is the line of its operations. -/
theorem bodyMain (d : Dev nD) : main (F := F) d = seq (ops (nodesMain (F := F))) := by
  rw [main, bodyFold, bodyRandint]
  simp only [nodesMain, ops, List.map_append, StableHlo.seq_append]
  rfl

end Cert.Proof.Reference

end
-- ==== Proof.RefRun.lean ====
/- The run of the reference: it comes to its end, its arguments are as they were, no semaphore counts anything, and every
   operation's equation holds of what its buffers then hold. -/
module

public import proofs.«01_k».proof.Proof.RefMain

@[expose] public section

noncomputable section

namespace Cert.Proof.Reference

open Idealize.ShloMosaic Idealize.SL.Sem Cert.Proof.Line Cert.Proof.Cipher
open Idealize.ShloMosaic.StableHlo (TRef seq)
open Cert.ReferenceIdeal Cert.ReferenceIdeal.Facts₀

variable {F : FTy → Type} [FloatOps F] [Facts₀] [Facts]

set_option maxRecDepth 100000 in
/-- Every buffer is written once, in the order of their numbers. -/
theorem chain_main : chain 2 (nodesMain (F := F)) 1028 = true := rfl

/-- The run. -/
theorem run_reference (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, ∃ W : Valuation τ sig (Elt F), (∀ b : Ref sig .tc, r.2.mem ((d.tc : Thread nD τ).loc b) = W (Proc.devRef .tc b))
        ∧ (∀ n ∈ nodesMain (F := F), n.eqn W) ∧ ∀ b : Ref sig .tc, key b < 2 → W (Proc.devRef .tc b) = m ((d.tc : Thread nD τ).loc b))
      ∧ r.2.sem = fun _ => 0 :=
  run_line (by decide) (by decide) rfl _ _ _ 2 1028 bodyMain chain_main m ρ

/-- The frame: the arguments are as they were and no semaphore counts anything. -/
theorem frame_all (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 := by
  refine (θ_run _ _ _).mono (fun r h => ⟨fun c => ?_, h.2⟩) (run_reference m ρ)
  obtain ⟨W, hW, -, ha⟩ := h.1 c
  exact ⟨(hW _).trans (ha _ (by decide)), (hW _).trans (ha _ (by decide))⟩

end Cert.Proof.Reference

end
-- ==== Proof.RefPairs.lean ====
/- The pairs of words the reference keeps its keys in: taking one word out, putting two together, a row of a table of
   two pairs. -/
module

public import proofs.«01_k».proof.Proof.RefLine
public import proofs.«01_k».proof.ReferenceIdeal

@[expose] public section

noncomputable section

namespace Cert.Proof.Reference

open Idealize.ShloMosaic Idealize.SL.Sem
open Cert.ReferenceIdeal Cert.ReferenceIdeal.Facts₀

/-- An array of two words. -/
def pair (a b : BitVec 32) : S2.Idx → BitVec 32 := fun i => if (i 0).val = 0 then a else b

/-- The index of a pair's word. -/
def ix (k : Fin 2) : S2.Idx := fun a => Fin.cast (by have : a = 0 := Subsingleton.elim (α := Fin 1) _ _; subst this; rfl) k

/-- A pair has two indices. -/
theorem pair_idx (i : S2.Idx) : i = ix 0 ∨ i = ix 1 := by
  have h : ∀ k : Fin 2, k = 0 ∨ k = 1 := by decide
  have e : i = ix (i 0) := funext fun a => by have : a = 0 := Subsingleton.elim (α := Fin 1) _ _; subst this; rfl
  rcases h (i 0) with h0 | h0
  · exact .inl (e.trans (congrArg ix h0))
  · exact .inr (e.trans (congrArg ix h0))

variable [Facts₀]

/-- The first word of a pair. -/
theorem pair_fst (a b : BitVec 32) : shapeCast S_ (extractStridedSlice S1 ![0] (pair a b) slices_S2_S1_0) shapeCasts_S1_S_ = fun _ => a := by
  funext j
  have h : ∀ k : S1.Idx, extractStridedSlice S1 ![0] (pair a b) slices_S2_S1_0 k = a := fun k => if_pos (by
    show 0 + (k 0).val = 0
    have : (k 0).val < 1 := (k 0).isLt
    omega)
  exact h _

/-- The second word of a pair. -/
theorem pair_snd (a b : BitVec 32) : shapeCast S_ (extractStridedSlice S1 ![1] (pair a b) slices_S2_S1_1) shapeCasts_S1_S_ = fun _ => b := by
  funext j
  have h : ∀ k : S1.Idx, extractStridedSlice S1 ![1] (pair a b) slices_S2_S1_1 k = b := fun k => if_neg (by
    show ¬ 1 + (k 0).val = 0
    omega)
  exact h _

/-- The first word of a pair, in an array of one. -/
theorem pair_fst' (a b : BitVec 32) : extractStridedSlice S1 ![0] (pair a b) slices_S2_S1_0 = fun _ => a := by
  funext k
  exact if_pos (by
    show 0 + (k 0).val = 0
    have : (k 0).val < 1 := (k 0).isLt
    omega)

/-- The second word of a pair, in an array of one. -/
theorem pair_snd' (a b : BitVec 32) : extractStridedSlice S1 ![1] (pair a b) slices_S2_S1_1 = fun _ => b := by
  funext k
  exact if_neg (by
    show ¬ 1 + (k 0).val = 0
    omega)

/-- Two words put together. -/
theorem pair_join (a b : BitVec 32) :
    concatenate S2 0 [⟨S1, fun _ => a⟩, ⟨S1, fun _ => b⟩] concatenates_S1_S1_S2_d0 = pair a b := by
  funext i
  rcases pair_idx i with rfl | rfl <;> rfl

/-- The first row of the table whose columns are two pairs. -/
theorem table_fst (a b c d : BitVec 32) :
    shapeCast S2 (extractStridedSlice S1x2 ![0, 0] (concatenate S2x2 1 [⟨S2x1, broadcastInDim S2x1 ![0] bcast_S2_S2x1_0 (pair a b)⟩,
      ⟨S2x1, broadcastInDim S2x1 ![0] bcast_S2_S2x1_0 (pair c d)⟩] concatenates_S2x1_S2x1_S2x2_d1) slices_S2x2_S1x2_0_0) shapeCasts_S1x2_S2
      = pair a c := by
  funext i
  refine (congrArg (extractStridedSlice S1x2 _ _ _) (Shape.reshapeEquiv_cons_one (d := ![2]) shapeCasts_S1x2_S2 i)).trans ?_
  rcases pair_idx i with rfl | rfl <;> rfl

/-- The second row. -/
theorem table_snd (a b c d : BitVec 32) :
    shapeCast S2 (extractStridedSlice S1x2 ![1, 0] (concatenate S2x2 1 [⟨S2x1, broadcastInDim S2x1 ![0] bcast_S2_S2x1_0 (pair a b)⟩,
      ⟨S2x1, broadcastInDim S2x1 ![0] bcast_S2_S2x1_0 (pair c d)⟩] concatenates_S2x1_S2x1_S2x2_d1) slices_S2x2_S1x2_1_0) shapeCasts_S1x2_S2
      = pair b d := by
  funext i
  refine (congrArg (extractStridedSlice S1x2 _ _ _) (Shape.reshapeEquiv_cons_one (d := ![2]) shapeCasts_S1x2_S2 i)).trans ?_
  rcases pair_idx i with rfl | rfl <;> rfl

end Cert.Proof.Reference

end
-- ==== Proof.RefKeys.lean ====
/- The reference's keys: what folding a number into a key leaves, and what splitting a key leaves. -/
module

public import proofs.«01_k».proof.Proof.RefFold
public import proofs.«01_k».proof.Proof.RefSplit
public import proofs.«01_k».proof.Proof.RefPairs

@[expose] public section

noncomputable section

namespace Cert.Proof.Reference

open Idealize.ShloMosaic Idealize.SL.Sem Cert.Proof.Line Cert.Proof.Cipher
open Idealize.ShloMosaic.StableHlo (TRef)
open Cert.ReferenceIdeal Cert.ReferenceIdeal.Facts₀

variable {F : FTy → Type} [FloatOps F] [Facts₀] [Facts] {W : Valuation τ sig (Elt F)}

/-- Folding the number one into the key `c`, `d`: the cipher of the counter (0, 1). -/
theorem fold_value {a0 : TS sig S2} {a1 : TS sig S_} {φ : fn_threefry_fold_in.Bufs} {c d : BitVec 32} (h0 : get W a0 = pair c d)
    (h1 : get W a1 = fun _ => 1#32) (h : ∀ q ∈ nodesFold (F := F) a0 a1 φ, q.eqn W) :
    get W φ.v12 = pair (Words.threefry c d (0#32, 1#32)).1 (Words.threefry c d (0#32, 1#32)).2 := by
  obtain ⟨hA, hB, hC⟩ := (List.forall_mem_append.1 h).imp_right List.forall_mem_append.1
  clear h
  simp only [fold0, fold1, List.forall_mem_cons, Node.eqn] at hA hC
  obtain ⟨e0, e1, e2, e3, e4, e5, e6, e7, e8, e9, e10, e11, e12, -⟩ := hA
  obtain ⟨f0, -⟩ := hC
  have k4 : get W φ.v4 = pair 0#32 1#32 := by
    have k1 : get W φ.v1 = fun _ => 0#32 := by rw [e2, e1, e0, h1]; rfl
    have k3 : get W φ.v3 = fun _ => 1#32 := by rw [e5, e4, e3, h1]; exact funext fun _ => (by decide : (1#32 : BitVec 32) &&& 4294967295#32 = 1#32)
    rw [e6, k1, k3]; exact pair_join _ _
  have k6 : get W φ.v6 = fun _ => c := by rw [e8, e7, h0]; exact pair_fst _ _
  have k8 : get W φ.v8 = fun _ => d := by rw [e10, e9, h0]; exact pair_snd _ _
  have k9 : get W φ.v9 = fun _ => 0#32 := by rw [e11, k4]; exact pair_fst' _ _
  have k10 : get W φ.v10 = fun _ => 1#32 := by rw [e12, k4]; exact pair_snd' _ _
  have hv := (bufOne φ.call0).value bcast_S_S1 k6 k8 hB
  have r1 : get W φ.call0.v171 = fun _ => (Words.threefry c d (0#32, 1#32)).1 := funext fun i => by
    have := congrArg Prod.fst (hv i); exact this.trans (by rw [show at2 W φ.v9 φ.v10 i = (0#32, 1#32) from Prod.ext (congrFun k9 i) (congrFun k10 i)])
  have r2 : get W φ.call0.v175 = fun _ => (Words.threefry c d (0#32, 1#32)).2 := funext fun i => by
    have := congrArg Prod.snd (hv i); exact this.trans (by rw [show at2 W φ.v9 φ.v10 i = (0#32, 1#32) from Prod.ext (congrFun k9 i) (congrFun k10 i)])
  rw [f0, r1, r2]; exact pair_join _ _

/-- Splitting the key `c`, `d`: the table whose columns are the first and the second words of the cipher of (0, 0) and (0, 1). -/
theorem split_value {a0 : TS sig S2} {φ : fn_threefry_split.Bufs} {c d : BitVec 32} (h0 : get W a0 = pair c d)
    (h : ∀ q ∈ nodesSplit (F := F) a0 φ, q.eqn W) :
    get W φ.v14 = concatenate S2x2 1 [⟨S2x1, broadcastInDim S2x1 ![0] bcast_S2_S2x1_0 (pair (Words.threefry c d (0#32, 0#32)).1 (Words.threefry c d (0#32, 1#32)).1)⟩,
      ⟨S2x1, broadcastInDim S2x1 ![0] bcast_S2_S2x1_0 (pair (Words.threefry c d (0#32, 0#32)).2 (Words.threefry c d (0#32, 1#32)).2)⟩]
      concatenates_S2x1_S2x1_S2x2_d1 := by
  obtain ⟨hA, hB, hC⟩ := (List.forall_mem_append.1 h).imp_right List.forall_mem_append.1
  clear h
  simp only [split0, split1, List.forall_mem_cons, Node.eqn] at hA hC
  obtain ⟨e0, e1, e2, e3, e4, e5, e6, e7, e8, e9, e10, e11, e12, -⟩ := hA
  obtain ⟨f0, f1, f2, -⟩ := hC
  have k1 : get W φ.v1 = fun _ => c := by rw [e1, e0, h0]; exact pair_fst _ _
  have k3 : get W φ.v3 = fun _ => d := by rw [e3, e2, h0]; exact pair_snd _ _
  have k9 : get W φ.v9 = pair 0#32 1#32 := by
    rw [e11, e7, e6, e5, e4]; funext i; rcases pair_idx i with rfl | rfl <;> rfl
  have k10 : get W φ.v10 = fun _ => 0#32 := by
    rw [e12, e10, e9, e8, e7, e6, e5, e4]; funext i; rcases pair_idx i with rfl | rfl
    · show (IntOp.shrui .host (1#64 * BitVec.ofNat 64 0) 32#64).setWidth 32 = 0#32
      decide
    · show (IntOp.shrui .host (1#64 * BitVec.ofNat 64 1) 32#64).setWidth 32 = 0#32
      decide
  have hv := (bufTwo φ.call0).value bcast_S_S2 k1 k3 hB
  have r1 : get W φ.call0.v171 = pair (Words.threefry c d (0#32, 0#32)).1 (Words.threefry c d (0#32, 1#32)).1 := funext fun i => by
    have := congrArg Prod.fst (hv i); refine this.trans ?_
    rw [show at2 W φ.v10 φ.v9 i = (0#32, pair 0#32 1#32 i) from Prod.ext (congrFun k10 i) (congrFun k9 i)]
    rcases pair_idx i with rfl | rfl <;> rfl
  have r2 : get W φ.call0.v175 = pair (Words.threefry c d (0#32, 0#32)).2 (Words.threefry c d (0#32, 1#32)).2 := funext fun i => by
    have := congrArg Prod.snd (hv i); refine this.trans ?_
    rw [show at2 W φ.v10 φ.v9 i = (0#32, pair 0#32 1#32 i) from Prod.ext (congrFun k10 i) (congrFun k9 i)]
    rcases pair_idx i with rfl | rfl <;> rfl
  rw [f2, f1, f0, r1, r2]

end Cert.Proof.Reference

end
-- ==== Proof.RefDraw.lean ====
/- What the reference draws: the bounds, the counters and the words drawn under the second half of the split key. -/
module

public import proofs.«01_k».proof.Proof.RefRandint
public import proofs.«01_k».proof.Proof.RefKeys

@[expose] public section

noncomputable section

namespace Cert.Proof.Reference

open Idealize.ShloMosaic Idealize.SL.Sem Cert.Proof.Line Cert.Proof.Cipher
open Idealize.ShloMosaic.StableHlo (TRef)
open Cert.ReferenceIdeal Cert.ReferenceIdeal.Facts₀

variable {F : FTy → Type} [FloatOps F] [Facts₀] [Facts] {W : Valuation τ sig (Elt F)}

/-- The counter's word at an index: its place in the array, row by row. -/
def place (i : S16384x200.Idx) : BitVec 32 := BitVec.ofNat 32 ((i 0).val * 200 + (i 1).val)

/-- A number clipped between `lo` and `hi`. -/
theorem clip_value {a0 a1 a2 : TS sig S_} {φ : fn_clip_0.Bufs} {v lo hi w : BitVec 32} (h0 : get W a0 = fun _ => v)
    (h1 : get W a1 = fun _ => lo) (h2 : get W a2 = fun _ => hi)
    (hv : IntOp.minsi hi (IntOp.maxsi lo v) = w) (h : ∀ q ∈ nodesClip0 (F := F) a0 a1 a2 φ, q.eqn W) :
    get W φ.v1 = fun _ => w := by
  simp only [nodesClip0, List.forall_mem_cons, Node.eqn] at h
  obtain ⟨e0, e1, -⟩ := h
  rw [e1, e0, h0, h1, h2]
  exact funext fun _ => hv

/-- The largest word clipped between `lo` and `hi`. -/
theorem clip_value' {a0 a1 a2 : TS sig S_} {φ : fn_clip.Bufs} {v lo hi w : BitVec 32} (h0 : get W a0 = fun _ => v)
    (h1 : get W a1 = fun _ => lo) (h2 : get W a2 = fun _ => hi)
    (hv : IntOp.minsi hi (IntOp.maxsi lo v) = w) (h : ∀ q ∈ nodesClip (F := F) a0 a1 a2 φ, q.eqn W) :
    get W φ.v1 = fun _ => w := by
  simp only [nodesClip, List.forall_mem_cons, Node.eqn] at h
  obtain ⟨e0, e1, -⟩ := h
  rw [e1, e0, h0, h1, h2]
  exact funext fun _ => hv

/-- The counter's low and high words, from its two coordinates in words twice as long. -/
theorem counter_words (x y : Nat) (hx : x < 16384) (hy : y < 200) :
    ((200#64 * BitVec.ofNat 64 x + 1#64 * BitVec.ofNat 64 y).setWidth 32 = BitVec.ofNat 32 (x * 200 + y))
      ∧ (IntOp.shrui .host (200#64 * BitVec.ofNat 64 x + 1#64 * BitVec.ofNat 64 y) 32#64).setWidth 32 = 0#32 := by
  have hn : (200#64 * BitVec.ofNat 64 x + 1#64 * BitVec.ofNat 64 y).toNat = x * 200 + y := by
    simp only [BitVec.toNat_add, BitVec.toNat_mul, BitVec.toNat_ofNat]
    omega
  refine ⟨BitVec.eq_of_toNat_eq ?_, BitVec.eq_of_toNat_eq ?_⟩
  · rw [BitVec.toNat_setWidth, hn, BitVec.toNat_ofNat]
  · rw [IntOp.shrui, if_pos (by decide), BitVec.toNat_setWidth, BitVec.ushiftRight_eq', BitVec.toNat_ushiftRight, hn,
      show (32#64 : BitVec 64).toNat = 32 from rfl, Nat.shiftRight_eq_div_pow, Nat.div_eq_of_lt (by omega)]
    rfl

/-- Up to the draw: the two bounds, whether the upper is clipped, and the words drawn, at every index. -/
theorem draw_value {a0 : TS sig S2} {a1 a2 : TS sig S_} {φ : fn_randint.Bufs} {c d : BitVec 32} (h0 : get W a0 = pair c d)
    (h1 : get W a1 = fun _ => 0#32) (h2 : get W a2 = fun _ => 1000000#32)
    (h : ∀ q ∈ nodesDraw (F := F) a0 a1 a2 φ, q.eqn W) :
    get W φ.v6 = (fun _ => 0#32) ∧ get W φ.v7 = (fun _ => 1000000#32) ∧ get W φ.v1 = (fun _ => 0#1)
      ∧ ∀ i, get W φ.v46 i
          = (Words.threefry (Words.threefry c d (0#32, 1#32)).1 (Words.threefry c d (0#32, 1#32)).2 (0#32, place i)).1
            ^^^ (Words.threefry (Words.threefry c d (0#32, 1#32)).1 (Words.threefry c d (0#32, 1#32)).2 (0#32, place i)).2 := by
  obtain ⟨g0, c0, h⟩ := (List.forall_mem_append.1 h).imp_right List.forall_mem_append.1
  obtain ⟨g1, c1, h⟩ := (List.forall_mem_append.1 h).imp_right List.forall_mem_append.1
  obtain ⟨g2, c2, h⟩ := (List.forall_mem_append.1 h).imp_right List.forall_mem_append.1
  obtain ⟨g3, c3, h⟩ := (List.forall_mem_append.1 h).imp_right List.forall_mem_append.1
  obtain ⟨g4, -, h⟩ := (List.forall_mem_append.1 h).imp_right List.forall_mem_append.1
  obtain ⟨g5, c5, g6⟩ := (List.forall_mem_append.1 h).imp_right List.forall_mem_append.1
  clear h
  have hsp := split_value h0 c3
  simp only [rand0, List.forall_mem_cons, Node.eqn] at g0
  obtain ⟨p0, p1, p2, -⟩ := g0
  simp only [rand1, List.forall_mem_cons, Node.eqn] at g1
  obtain ⟨p3, p4, p5, -⟩ := g1
  simp only [rand2, List.forall_mem_cons, Node.eqn] at g2
  obtain ⟨p6, p7, p8, -⟩ := g2
  simp only [rand3, List.forall_mem_cons, Node.eqn] at g3
  obtain ⟨p9, p10, p11, -⟩ := g3
  simp only [rand4, List.forall_mem_cons, Node.eqn] at g4
  obtain ⟨-, -, q11, q12, -⟩ := g4
  simp only [rand5, List.forall_mem_cons, Node.eqn] at g5
  obtain ⟨-, r30, r31, r32, r33, r34, r35, rc9, r36, r37, rc10, r38, r39, r40, rc11, r41, r42, r43, r44, -⟩ := g5
  simp only [rand6, List.forall_mem_cons, Node.eqn] at g6
  obtain ⟨r46, -⟩ := g6
  have k0 : get W φ.call0.v1 = fun _ => 2147483647#32 := clip_value' p0 p1 p2 (by decide) c0
  have k1 : get W φ.call1.v1 = fun _ => 0#32 := clip_value h1 p4 p5 (by decide) c1
  have k2 : get W φ.call2.v1 = fun _ => 1000000#32 := clip_value h2 p7 p8 (by decide) c2
  have k12 : get W φ.v12 = pair (Words.threefry c d (0#32, 1#32)).1 (Words.threefry c d (0#32, 1#32)).2 := by
    rw [q12, q11, hsp]; exact table_snd _ _ _ _
  have k31 : get W φ.v31 = fun _ => (Words.threefry c d (0#32, 1#32)).1 := by rw [r31, r30, k12]; exact pair_fst _ _
  have k33 : get W φ.v33 = fun _ => (Words.threefry c d (0#32, 1#32)).2 := by rw [r33, r32, k12]; exact pair_snd _ _
  have k40 : ∀ i : S16384x200.Idx, get W φ.v40 i = 200#64 * BitVec.ofNat 64 (i 0).val + 1#64 * BitVec.ofNat 64 (i 1).val := fun i => by
    rw [r40, r39, r38, rc10, r37, r36, rc9, r35, r34]; rfl
  have k43 : ∀ i : S16384x200.Idx, get W φ.v43 i = place i := fun i => by
    rw [r43]
    exact (congrArg (BitVec.setWidth 32) (k40 i)).trans (counter_words _ _ (i 0).isLt (i 1).isLt).1
  have k44 : ∀ i : S16384x200.Idx, get W φ.v44 i = 0#32 := fun i => by
    rw [r44, r42, r41, rc11]
    exact (congrArg (fun v => (IntOp.shrui .host v 32#64).setWidth 32) (k40 i)).trans (counter_words _ _ (i 0).isLt (i 1).isLt).2
  have hv := (bufAll φ.call5).value bcast_S_S16384x200 k31 k33 c5
  refine ⟨?_, ?_, ?_, fun i => ?_⟩
  · rw [p10, p6, k1]; rfl
  · rw [p11, p9, k2]; rfl
  · rw [p3, k0, h2]; exact funext fun _ => (by decide : IntOp.cmpi .sgt 1000000#32 2147483647#32 = 0#1)
  · have hi := hv i
    rw [show at2 W φ.v44 φ.v43 i = (0#32, place i) from Prod.ext (k44 i) (k43 i)] at hi
    rw [r46]
    exact congrArg (fun p : BitVec 32 × BitVec 32 => p.1 ^^^ p.2) hi

end Cert.Proof.Reference

end
-- ==== Proof.RefFit.lean ====
/- Fitting a drawn word to the span of a million: the multiplier of the high half wraps to zero, so what is left is the low
   half's word modulo a million. -/
module

public import proofs.«01_k».proof.Proof.RefDraw

@[expose] public section

noncomputable section

namespace Cert.Proof.Reference

open Idealize.ShloMosaic Idealize.SL.Sem Cert.Proof.Line Cert.Proof.Cipher
open Idealize.ShloMosaic.StableHlo (TRef)
open Cert.ReferenceIdeal Cert.ReferenceIdeal.Facts₀

variable {F : FTy → Type} [FloatOps F] [Facts₀] [Facts] {W : Valuation τ sig (Elt F)}

/-- The last words: whatever the high half's word `u`, the low half's word `w` comes out modulo a million. -/
theorem fit_word (u w : BitVec 32) :
    0#32 + IntOp.remui .host (IntOp.remui .host u 1000000#32 * 0#32 + IntOp.remui .host w 1000000#32) 1000000#32 = w % 1000000#32 := by
  have e : ∀ v : BitVec 32, IntOp.remui .host v 1000000#32 = v % 1000000#32 := fun v => if_neg (by decide)
  rw [e, e, e, BitVec.mul_zero, BitVec.zero_add, BitVec.zero_add]
  refine BitVec.eq_of_toNat_eq ?_
  rw [BitVec.toNat_umod, BitVec.toNat_umod]
  exact Nat.mod_mod _ _

/-- The number drawn at an index. -/
theorem fit_value {a0 : TS sig S2} {a1 a2 : TS sig S_} {φ : fn_randint.Bufs}
    (h6 : get W φ.v6 = fun _ => 0#32) (h7 : get W φ.v7 = fun _ => 1000000#32) (h1 : get W φ.v1 = fun _ => 0#1)
    (h : ∀ q ∈ fit0 (F := F) a0 a1 a2 φ, q.eqn W) (i : S16384x200.Idx) : get W φ.v73 i = get W φ.v46 i % 1000000#32 := by
  simp only [fit0, List.forall_mem_cons, Node.eqn] at h
  obtain ⟨e47, e48, e49, ec12, e50, e51, e52, e53, e54, ec13, e55, e56, e57, ec14, e58, e59, e60, e61, e62, e63, e64, e65, e66, e67,
    e68, e69, e70, e71, e72, e73, -⟩ := h
  have k47 : get W φ.v47 = fun _ => 1000000#32 := by rw [e47, h6, h7]; exact funext fun _ => (by decide : 1000000#32 - 0#32 = (1000000#32 : BitVec 32))
  have k49 : get W φ.v49 = fun _ => 0#1 := by rw [e49, h6, h7]; exact funext fun _ => (by decide : IntOp.cmpi .sle 1000000#32 0#32 = 0#1)
  have k51 : get W φ.v51 = fun _ => 1000000#32 := by rw [e51, k49, e48, k47]; rfl
  have k54 : get W φ.v54 = fun _ => 0#1 := by
    rw [e54, e53, e52, h1, h6, h7]; exact funext fun _ => (by decide : 0#1 &&& IntOp.cmpi .sgt 1000000#32 0#32 = 0#1)
  have k57 : get W φ.v57 = fun _ => 1000000#32 := by rw [e57, k54, k51]; rfl
  have k59 : get W φ.v59 = fun _ => 65536#32 := by
    rw [e59, e58, ec14, k57]; exact funext fun _ => (by decide : IntOp.remui .host 65536#32 1000000#32 = 65536#32)
  have k60 : get W φ.v60 = fun _ => 0#32 := by rw [e60, k59]; exact funext fun _ => (by decide : 65536#32 * 65536#32 = (0#32 : BitVec 32))
  have k61 : get W φ.v61 = fun _ => 0#32 := by rw [e61, k60, k57]; exact funext fun _ => (by decide : IntOp.remui .host 0#32 1000000#32 = 0#32)
  rw [e73, e72, e71, e70, e69, e68, e67, e66, e65, e64, e63, e62, k57, k61, h6]
  exact fit_word _ _

/-- Drawing integers below a million under the key `c`, `d`. -/
theorem randint_value {a0 : TS sig S2} {a1 a2 : TS sig S_} {φ : fn_randint.Bufs} {c d : BitVec 32} (h0 : get W a0 = pair c d)
    (h1 : get W a1 = fun _ => 0#32) (h2 : get W a2 = fun _ => 1000000#32)
    (h : ∀ q ∈ nodesRandint (F := F) a0 a1 a2 φ, q.eqn W) (i : S16384x200.Idx) :
    get W φ.v73 i = ((Words.threefry (Words.threefry c d (0#32, 1#32)).1 (Words.threefry c d (0#32, 1#32)).2 (0#32, place i)).1
      ^^^ (Words.threefry (Words.threefry c d (0#32, 1#32)).1 (Words.threefry c d (0#32, 1#32)).2 (0#32, place i)).2) % 1000000#32 := by
  obtain ⟨hd, hf⟩ := List.forall_mem_append.1 h
  obtain ⟨k6, k7, k1, hw⟩ := draw_value h0 h1 h2 hd
  rw [fit_value k6 k7 k1 hf i, hw i]

end Cert.Proof.Reference

end
-- ==== Proof.Consts.lean ====
/- The two float constants of the reference and of the precondition, as the reals their words denote. -/
module

public import Idealize.ShloMosaic.PureOps.Ideal

@[expose] public section

noncomputable section

namespace Cert.Proof.Consts

open Idealize.ShloMosaic

/-- The word of 1.0 denotes the real one. -/
theorem ofBits_one : Ideal.ofBits .f32 0x3F800000#32 = ((1 : ℝ) : EReal) := by
  simp [Ideal.ofBits, Ideal.ieee, -EReal.coe_mul]; norm_num

/-- The word of 1000000.0 denotes the real one million. -/
theorem ofBits_million : Ideal.ofBits .f32 0x49742400#32 = ((1000000 : ℝ) : EReal) := by
  simp [Ideal.ofBits, Ideal.ieee, -EReal.coe_mul]; norm_num

end Cert.Proof.Consts

end
-- ==== Proof.RefValue.lean ====
/- What the reference's two results hold: the drawn numbers; and, at the reals, minus the logarithm of a million wherever the
   scale is one. -/
module

public import proofs.«01_k».proof.Proof.RefRun
public import proofs.«01_k».proof.Proof.RefFit
public import proofs.«01_k».proof.Proof.Consts

@[expose] public section

noncomputable section

namespace Cert.Proof.Reference

open Idealize.ShloMosaic Idealize.SL.Sem Cert.Proof.Line Cert.Proof.Cipher
open Idealize.ShloMosaic.StableHlo (TRef)
open Cert.ReferenceIdeal Cert.ReferenceIdeal.Facts₀

/-- The key after one is folded into the key of seed zero. -/
theorem key_folded : Words.threefry 0#32 0#32 (0#32, 1#32) = (928981903#32, 3453687069#32) := by decide +kernel

/-- The key of the low half: the second of the two it splits into. -/
theorem key_low : Words.threefry 928981903#32 3453687069#32 (0#32, 1#32) = (3968330031#32, 3923691647#32) := by decide +kernel

section Drawn

variable {F : FTy → Type} [FloatOps F] [Facts₀] [Facts] {W : Valuation τ sig (Elt F)}

/-- The first result: the drawn numbers. -/
theorem items_value (h : ∀ q ∈ nodesMain (F := F), q.eqn W) (i : S16384x200.Idx) :
    get W (.of main_v8 : TRef sig ⟨S16384x200, .i32⟩) i = Words.drawn (place i) := by
  obtain ⟨g0, c0, h⟩ := (List.forall_mem_append.1 h).imp_right List.forall_mem_append.1
  obtain ⟨g1, c1, -⟩ := (List.forall_mem_append.1 h).imp_right List.forall_mem_append.1
  clear h
  simp only [run0, List.forall_mem_cons, Node.eqn] at g0
  obtain ⟨p0, p1, p2, p3, p4, p5, p6, p7, p8, p9, p10, -⟩ := g0
  simp only [run1, List.forall_mem_cons, Node.eqn] at g1
  obtain ⟨q0, q1, -⟩ := g1
  have k2 : get W (.of main_v2 : TRef sig ⟨S1, .i32⟩) = fun _ => 0#32 := by
    rw [p4, p3, p2, p1, p0]; exact funext fun _ => (by decide : IntOp.shrui .host 0#32 32#32 = 0#32)
  have k5 : get W (.of main_v5 : TRef sig ⟨S1, .i32⟩) = fun _ => 0#32 := by
    rw [p8, p7, p6, p5, p0]; exact funext fun _ => (by decide : (0#32 : BitVec 32) &&& 4294967295#32 = 0#32)
  have k6 : get W (.of main_v6 : TRef sig ⟨S2, .i32⟩) = pair 0#32 0#32 := by rw [p9, k2, k5]; exact pair_join _ _
  have k7 : get W (.of main_v7 : TRef sig ⟨S2, .i32⟩) = pair 928981903#32 3453687069#32 := by
    refine (fold_value k6 p10 c0).trans ?_
    rw [key_folded]
  refine (randint_value (φ := main_call1) k7 q0 q1 c1 i).trans ?_
  rw [key_low]; rfl

end Drawn

/-- The second result, at the reals, where the scale is one at the index: minus the logarithm of a million. -/
theorem logp_value [Facts₀] [Facts] {W : Valuation τ sig (Elt Ideal)} (h : ∀ q ∈ nodesMain (F := Ideal), q.eqn W) (i : S16384x200.Idx)
    (hs : get W (.of main_arg1 : TRef sig ⟨S16384x200, .f32⟩) i = ((1 : ℝ) : EReal)) :
    get W (.of main_v12 : TRef sig ⟨S16384x200, .f32⟩) i = ((-(Real.log 1000000) : ℝ) : EReal) := by
  obtain ⟨-, -, h⟩ := (List.forall_mem_append.1 h).imp_right List.forall_mem_append.1
  obtain ⟨-, -, g2⟩ := (List.forall_mem_append.1 h).imp_right List.forall_mem_append.1
  clear h
  simp only [run2, List.forall_mem_cons, Node.eqn] at g2
  obtain ⟨p0, p1, p2, p3, p4, -⟩ := g2
  rw [p4, p3, p2, p1, p0]
  show -Ideal.log (Ideal.ofBits .f32 0x49742400#32 * get W (.of main_arg1 : TRef sig ⟨S16384x200, .f32⟩) i) = _
  rw [hs, Consts.ofBits_million, ← EReal.coe_mul, mul_one, Ideal.log_coe, if_neg (by norm_num), EReal.coe_neg]

end Cert.Proof.Reference

end
-- ==== Proof.Equation.lean ====
/- The equation of the two programs at the reals: their first results are the same drawn numbers, their second results the
   same logarithm wherever the scale is one; and the precondition says that it is one everywhere. -/
module

public import proofs.«01_k».proof.Defs
public import proofs.«01_k».proof.Proof.Gen.Kernel
public import proofs.«01_k».proof.Proof.Gen.ReferenceIdeal
public import proofs.«01_k».proof.Proof.Gen.Pre_scale_is_one
public import proofs.«01_k».proof.Proof.IdealLaunch
public import proofs.«01_k».proof.Proof.RefValue

@[expose] public section

noncomputable section

namespace Cert.Proof

open Idealize.ShloMosaic Idealize.SL.Sem

/-- The kernel's named constant is the logarithm it was computed from. -/
theorem neg_log_items :
    Named.named (F := Ideal) Cert.KernelIdeal.κ "neg_log_items" (φ := .f32) 0xC15D0C55#32 = ((-(Real.log 1000000) : ℝ) : EReal) :=
  IdealRules.named_const.ideal_named_scalar _ _ _ _ rfl

/-- The idealization's one rewrite keeps what it says it keeps. -/
theorem preserves : Cert.preserves_Kernel_KernelIdeal :=
  IdealRules.named_const.statement Cert.KernelIdeal.κ "neg_log_items" .f32 0xC15D0C55#32 ((-(Real.log 1000000) : ℝ) : EReal) rfl

/-- What the precondition says of the scale at an index. -/
theorem scale_one {a : IVec Cert.Pre_scale_is_one.S16384 32} {x : FVec Ideal Cert.Pre_scale_is_one.S16384x200 .f32}
    (h : Cert.Pre_scale_is_one.fn (F := Ideal) a x = fun _ => 1#1) (i : Cert.Pre_scale_is_one.S16384x200.Idx) : x i = ((1 : ℝ) : EReal) := by
  have hi : BitVec.ofBool (decide (x i = Ideal.ofBits .f32 0x3F800000#32)) = 1#1 := congrFun h i
  rw [Consts.ofBits_one] at hi
  by_contra hx
  rw [decide_eq_false hx] at hi
  exact absurd hi (by decide)

/-- Both programs, at the reals, end with equal results. -/
theorem algebraic : Cert.algebraic_KernelIdeal_ReferenceIdeal_pre_scale_is_one := by
  intro m g m' g' hp hagree
  refine ⟨fun c => KernelIdeal.OUT0 c, fun c => KernelIdeal.OUT1 c, ?_, ?_⟩
  · exact (θ_run _ _ _).mono (fun r h c => ⟨(h.1 c).2.2.1, (h.1 c).2.2.2, (h.1 c).1, (h.1 c).2.1⟩) (KernelIdeal.run_main m g)
  · refine (θ_run _ _ _).mono (fun r h c => ?_) (Reference.run_reference (F := Ideal) m' g')
    obtain ⟨W, hW, hn, ha⟩ := h.1 c
    refine ⟨(hW _).trans (funext fun i => Reference.items_value hn i), (hW _).trans (funext fun i => ?_),
      (hW _).trans (ha _ (by decide)), (hW _).trans (ha _ (by decide))⟩
    refine (Reference.logp_value hn i ?_).trans neg_log_items.symm
    have h1 := (ha Cert.ReferenceIdeal.main_arg1 (by decide)).trans (hagree c).2
    exact (congrFun h1 i).trans (scale_one (hp c) i)

end Cert.Proof

end
-- ==== Proof.lean ====
/- The claims, put together: the frames of the three programs, the rewrite of the named constant, and the equation of the
   kernel and the reference at the reals where the scale is one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scale_is_one
public import proofs.«01_k».proof.Proof.KernelLaunch
public import proofs.«01_k».proof.Proof.IdealLaunch
public import proofs.«01_k».proof.Proof.RefRun
public import proofs.«01_k».proof.Proof.Equation

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Pre_scale_is_one.Gen.facts,
    fun m g _ => Kernel.frame_all m g, fun m g _ => KernelIdeal.frame_all m g, fun m g _ => KernelIdeal.frame_all m g,
    fun m g _ => Reference.frame_all m g, fun m g _ => Reference.frame_all m g, preserves, algebraic⟩

end Cert.Proof

end
